-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  IdealRules.named_const.Statement Cert.KernelIdeal.κ "rlog2" .f32 0x3FB8AA3B#32 (((Real.log 2)⁻¹ : ℝ) : EReal)
  ∧ IdealRules.named_const.Statement Cert.KernelIdeal.κ "half_over_c" .bf16 0x3F35#16 ((8388608 / 11863283 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v105)) (v1 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_v108) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v290) = v0 c
          ∧ r.2.mem ((c.tc : Thread Cert.ReferenceIdeal.nD Cert.ReferenceIdeal.τ).loc Cert.ReferenceIdeal.main_v292) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x8x128 : Shape := ⟨3, ![1024, 8, 128]⟩
abbrev S1024x128 : Shape := ⟨2, ![1024, 128]⟩
abbrev S1024x8 : Shape := ⟨2, ![1024, 8]⟩
abbrev S194x256 : Shape := ⟨2, ![194, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S128x1 : Shape := ⟨2, ![128, 1]⟩
abbrev S66 : Shape := ⟨1, ![66]⟩
abbrev S224x8 : Shape := ⟨2, ![224, 8]⟩
abbrev S224x2 : Shape := ⟨2, ![224, 2]⟩
abbrev S224x16 : Shape := ⟨2, ![224, 16]⟩
abbrev S16x14 : Shape := ⟨2, ![16, 14]⟩
abbrev S128x32 : Shape := ⟨2, ![128, 32]⟩
abbrev S1x32 : Shape := ⟨2, ![1, 32]⟩
abbrev S384x32 : Shape := ⟨2, ![384, 32]⟩
abbrev S32x16 : Shape := ⟨2, ![32, 16]⟩
abbrev S1024x8x1 : Shape := ⟨3, ![1024, 8, 1]⟩
abbrev S1024x8x3 : Shape := ⟨3, ![1024, 8, 3]⟩
abbrev S8192x3 : Shape := ⟨2, ![8192, 3]⟩
abbrev S66x256 : Shape := ⟨2, ![66, 256]⟩
abbrev S_ : Shape := ⟨0, ![]⟩
abbrev S66x1 : Shape := ⟨2, ![66, 1]⟩
abbrev S66x512 : Shape := ⟨2, ![66, 512]⟩
abbrev S128x256 : Shape := ⟨2, ![128, 256]⟩
abbrev S128x512 : Shape := ⟨2, ![128, 512]⟩
abbrev S512 : Shape := ⟨1, ![512]⟩
abbrev S1x512 : Shape := ⟨2, ![1, 512]⟩
abbrev S512x256 : Shape := ⟨2, ![512, 256]⟩
abbrev S2 : Shape := ⟨1, ![2]⟩
abbrev S1x256 : Shape := ⟨2, ![1, 256]⟩
abbrev S256x72 : Shape := ⟨2, ![256, 72]⟩
abbrev S64x8 : Shape := ⟨2, ![64, 8]⟩
abbrev S16x224x16x8 : Shape := ⟨4, ![16, 224, 16, 8]⟩
abbrev S1x224x1x8 : Shape := ⟨4, ![1, 224, 1, 8]⟩
abbrev S3584x128 : Shape := ⟨2, ![3584, 128]⟩
abbrev S3584x256 : Shape := ⟨2, ![3584, 256]⟩
abbrev S16x224x16 : Shape := ⟨3, ![16, 224, 16]⟩
abbrev S3584x16 : Shape := ⟨2, ![3584, 16]⟩
abbrev S1x224x2 : Shape := ⟨3, ![1, 224, 2]⟩
abbrev S16x224x2 : Shape := ⟨3, ![16, 224, 2]⟩
abbrev S3584x2 : Shape := ⟨2, ![3584, 2]⟩
abbrev S1x224x16 : Shape := ⟨3, ![1, 224, 16]⟩
abbrev S1x64 : Shape := ⟨2, ![1, 64]⟩
abbrev S1x1 : Shape := ⟨2, ![1, 1]⟩
abbrev S229376x1 : Shape := ⟨2, ![229376, 1]⟩
abbrev S128x3 : Shape := ⟨2, ![128, 3]⟩
abbrev S16x128 : Shape := ⟨2, ![16, 128]⟩
abbrev S3584x1 : Shape := ⟨2, ![3584, 1]⟩
abbrev S1x14 : Shape := ⟨2, ![1, 14]⟩
abbrev S1x6 : Shape := ⟨2, ![1, 6]⟩
abbrev S128x14 : Shape := ⟨2, ![128, 14]⟩
abbrev S128x6 : Shape := ⟨2, ![128, 6]⟩
abbrev S128x16 : Shape := ⟨2, ![128, 16]⟩
abbrev S128x20 : Shape := ⟨2, ![128, 20]⟩
abbrev S128x55 : Shape := ⟨2, ![128, 55]⟩
abbrev S128x128 : Shape := ⟨2, ![128, 128]⟩
abbrev S128x56 : Shape := ⟨2, ![128, 56]⟩
abbrev S3584x32 : Shape := ⟨2, ![3584, 32]⟩
abbrev S3584x384 : Shape := ⟨2, ![3584, 384]⟩
abbrev S3584x40 : Shape := ⟨2, ![3584, 40]⟩
abbrev S3584x8 : Shape := ⟨2, ![3584, 8]⟩
abbrev S3584x82 : Shape := ⟨2, ![3584, 82]⟩
abbrev S16x512 : Shape := ⟨2, ![16, 512]⟩
abbrev S82x512 : Shape := ⟨2, ![82, 512]⟩
abbrev S3584x512 : Shape := ⟨2, ![3584, 512]⟩
abbrev S3584x72 : Shape := ⟨2, ![3584, 72]⟩
abbrev S3584x64 : Shape := ⟨2, ![3584, 64]⟩
abbrev S1024x224 : Shape := ⟨2, ![1024, 224]⟩
abbrev S1024x218 : Shape := ⟨2, ![1024, 218]⟩
abbrev S1024x218x1 : Shape := ⟨3, ![1024, 218, 1]⟩

abbrev nBuf : Space → Nat
  | .hbm => 174
  | .vmem => 28
  | .smem => 0
  | _ => 0

abbrev hbmTy0_0 (i : Nat) : BufTy := match i % 128 with
  | 0 => ⟨S1024x8x128, .f32⟩
  | 1 => ⟨S1024x128, .f32⟩
  | 2 => ⟨S1024x8, .i32⟩
  | 3 => ⟨S1024x8, .i32⟩
  | 4 => ⟨S1024x8, .i32⟩
  | 5 => ⟨S194x256, .f32⟩
  | 6 => ⟨S256, .f32⟩
  | 7 => ⟨S256x128, .f32⟩
  | 8 => ⟨S128, .f32⟩
  | 9 => ⟨S128x64, .f32⟩
  | 10 => ⟨S64, .f32⟩
  | 11 => ⟨S64x1, .f32⟩
  | 12 => ⟨S1, .f32⟩
  | 13 => ⟨S194x256, .f32⟩
  | 14 => ⟨S256, .f32⟩
  | 15 => ⟨S256x128, .f32⟩
  | 16 => ⟨S128, .f32⟩
  | 17 => ⟨S128x1, .f32⟩
  | 18 => ⟨S1, .f32⟩
  | 19 => ⟨S66, .i32⟩
  | 20 => ⟨S224x8, .f32⟩
  | 21 => ⟨S224x2, .f32⟩
  | 22 => ⟨S224x16, .f32⟩
  | 23 => ⟨S16x14, .bf16⟩
  | 24 => ⟨S128x32, .bf16⟩
  | 25 => ⟨S1x32, .f32⟩
  | 26 => ⟨S384x32, .bf16⟩
  | 27 => ⟨S1x32, .f32⟩
  | 28 => ⟨S32x16, .bf16⟩
  | 29 => ⟨S1024x8x1, .i32⟩
  | 30 => ⟨S1024x8x1, .i32⟩
  | 31 => ⟨S1024x8x1, .i32⟩
  | 32 => ⟨S1024x8x3, .i32⟩
  | 33 => ⟨S8192x3, .i32⟩
  | 34 => ⟨S66x256, .f32⟩
  | 35 => ⟨S_, .i32⟩
  | 36 => ⟨S66, .i32⟩
  | 37 => ⟨S66, .i1⟩
  | 38 => ⟨S_, .i32⟩
  | 39 => ⟨S66, .i32⟩
  | 40 => ⟨S66, .i32⟩
  | 41 => ⟨S66, .i32⟩
  | 42 => ⟨S66x1, .i32⟩
  | 43 => ⟨S66x256, .f32⟩
  | 44 => ⟨S_, .f32⟩
  | 45 => ⟨S66x256, .f32⟩
  | 46 => ⟨S66x256, .f32⟩
  | 47 => ⟨S66x256, .f32⟩
  | 48 => ⟨S_, .i32⟩
  | 49 => ⟨S66, .i32⟩
  | 50 => ⟨S66, .i1⟩
  | 51 => ⟨S_, .i32⟩
  | 52 => ⟨S66, .i32⟩
  | 53 => ⟨S66, .i32⟩
  | 54 => ⟨S66, .i32⟩
  | 55 => ⟨S66x1, .i32⟩
  | 56 => ⟨S66x256, .f32⟩
  | 57 => ⟨S_, .f32⟩
  | 58 => ⟨S66x256, .f32⟩
  | 59 => ⟨S66x256, .f32⟩
  | 60 => ⟨S66x512, .f32⟩
  | 61 => ⟨S66x512, .bf16⟩
  | 62 => ⟨S128x256, .f32⟩
  | 63 => ⟨S128x256, .f32⟩
  | 64 => ⟨S128x512, .f32⟩
  | 65 => ⟨S_, .f32⟩
  | 66 => ⟨S128x512, .f32⟩
  | 67 => ⟨S128x512, .f32⟩
  | 68 => ⟨S128x512, .bf16⟩
  | 69 => ⟨S512, .f32⟩
  | 70 => ⟨S_, .f32⟩
  | 71 => ⟨S512, .f32⟩
  | 72 => ⟨S512, .f32⟩
  | 73 => ⟨S1x512, .f32⟩
  | 74 => ⟨S_, .f32⟩
  | 75 => ⟨S512x256, .f32⟩
  | 76 => ⟨S_, .i32⟩
  | 77 => ⟨S1, .i32⟩
  | 78 => ⟨S_, .i32⟩
  | 79 => ⟨S1, .i32⟩
  | 80 => ⟨S2, .i32⟩
  | 81 => ⟨S512x256, .f32⟩
  | 82 => ⟨S_, .i32⟩
  | 83 => ⟨S1, .i32⟩
  | 84 => ⟨S_, .i32⟩
  | 85 => ⟨S1, .i32⟩
  | 86 => ⟨S2, .i32⟩
  | 87 => ⟨S512x256, .f32⟩
  | 88 => ⟨S_, .f32⟩
  | 89 => ⟨S512x256, .f32⟩
  | 90 => ⟨S512x256, .f32⟩
  | 91 => ⟨S512x256, .bf16⟩
  | 92 => ⟨S256, .f32⟩
  | 93 => ⟨S_, .f32⟩
  | 94 => ⟨S256, .f32⟩
  | 95 => ⟨S256, .f32⟩
  | 96 => ⟨S1x256, .f32⟩
  | 97 => ⟨S_, .f32⟩
  | 98 => ⟨S256x72, .f32⟩
  | 99 => ⟨S_, .f32⟩
  | 100 => ⟨S128x64, .f32⟩
  | 101 => ⟨S128x64, .f32⟩
  | 102 => ⟨S_, .i32⟩
  | 103 => ⟨S1, .i32⟩
  | 104 => ⟨S_, .i32⟩
  | 105 => ⟨S1, .i32⟩
  | 106 => ⟨S2, .i32⟩
  | 107 => ⟨S256x72, .f32⟩
  | 108 => ⟨S_, .i32⟩
  | 109 => ⟨S1, .i32⟩
  | 110 => ⟨S_, .i32⟩
  | 111 => ⟨S1, .i32⟩
  | 112 => ⟨S2, .i32⟩
  | 113 => ⟨S256x72, .f32⟩
  | 114 => ⟨S256x72, .bf16⟩
  | 115 => ⟨S_, .f32⟩
  | 116 => ⟨S64x8, .f32⟩
  | 117 => ⟨S_, .i32⟩
  | 118 => ⟨S1, .i32⟩
  | 119 => ⟨S64x8, .f32⟩
  | 120 => ⟨S64x8, .bf16⟩
  | 121 => ⟨S1024x128, .bf16⟩
  | 122 => ⟨S16x224x16x8, .i32⟩
  | 123 => ⟨S16x224x16x8, .i32⟩
  | 124 => ⟨S16x224x16x8, .i1⟩
  | 125 => ⟨S1x224x1x8, .f32⟩
  | 126 => ⟨S16x224x16x8, .f32⟩
  | 127 => ⟨S_, .f32⟩
  | _ => ⟨S1024x8x128, .f32⟩

abbrev hbmTy0_1 (i : Nat) : BufTy := match i % 128 with
  | 0 => ⟨S_, .f32⟩
  | 1 => ⟨S16x224x16x8, .f32⟩
  | 2 => ⟨S16x224x16x8, .f32⟩
  | 3 => ⟨S3584x128, .f32⟩
  | 4 => ⟨S_, .f32⟩
  | 5 => ⟨S224x8, .f32⟩
  | 6 => ⟨S224x8, .f32⟩
  | 7 => ⟨S1x224x1x8, .f32⟩
  | 8 => ⟨S16x224x16x8, .f32⟩
  | 9 => ⟨S_, .f32⟩
  | 10 => ⟨S_, .f32⟩
  | 11 => ⟨S16x224x16x8, .f32⟩
  | 12 => ⟨S16x224x16x8, .f32⟩
  | 13 => ⟨S3584x128, .f32⟩
  | 14 => ⟨S3584x256, .f32⟩
  | 15 => ⟨S3584x256, .bf16⟩
  | 16 => ⟨S16x224x16, .i32⟩
  | 17 => ⟨S16x224x16, .i32⟩
  | 18 => ⟨S16x224x16, .i1⟩
  | 19 => ⟨S_, .f32⟩
  | 20 => ⟨S_, .f32⟩
  | 21 => ⟨S16x224x16, .f32⟩
  | 22 => ⟨S16x224x16, .f32⟩
  | 23 => ⟨S16x224x16, .f32⟩
  | 24 => ⟨S3584x16, .f32⟩
  | 25 => ⟨S3584x16, .bf16⟩
  | 26 => ⟨S1x224x2, .f32⟩
  | 27 => ⟨S16x224x2, .f32⟩
  | 28 => ⟨S3584x2, .f32⟩
  | 29 => ⟨S3584x2, .bf16⟩
  | 30 => ⟨S1x224x16, .f32⟩
  | 31 => ⟨S16x224x16, .f32⟩
  | 32 => ⟨S3584x16, .f32⟩
  | 33 => ⟨S_, .f32⟩
  | 34 => ⟨S64, .f32⟩
  | 35 => ⟨S64, .f32⟩
  | 36 => ⟨S1x64, .f32⟩
  | 37 => ⟨S1x1, .f32⟩
  | 38 => ⟨S1x1, .f32⟩
  | 39 => ⟨S229376x1, .f32⟩
  | 40 => ⟨S229376x1, .f32⟩
  | 41 => ⟨S1024x224, .f32⟩
  | 42 => ⟨S1024x218, .f32⟩
  | 43 => ⟨S1024x224, .f32⟩
  | 44 => ⟨S1024x218, .f32⟩
  | 45 => ⟨S1024x218x1, .f32⟩
  | _ => ⟨S1024x8x128, .f32⟩

abbrev hbmTy (i : Nat) : BufTy := match i / 128 with
  | 0 => hbmTy0_0 i
  | 1 => hbmTy0_1 i
  | _ => ⟨S1024x8x128, .f32⟩

abbrev bufTy : (tb : Table) → Fin (tcTables nBuf tb) → BufTy
  | .hbm, ⟨i, _⟩ => hbmTy i
  | .local _ .vmem, ⟨0, _⟩ => ⟨S128x3, .i32⟩
  | .local _ .vmem, ⟨1, _⟩ => ⟨S128x3, .i32⟩
  | .local _ .vmem, ⟨2, _⟩ => ⟨S16x128, .bf16⟩
  | .local _ .vmem, ⟨3, _⟩ => ⟨S16x128, .bf16⟩
  | .local _ .vmem, ⟨4, _⟩ => ⟨S3584x256, .bf16⟩
  | .local _ .vmem, ⟨5, _⟩ => ⟨S3584x16, .bf16⟩
  | .local _ .vmem, ⟨6, _⟩ => ⟨S3584x2, .bf16⟩
  | .local _ .vmem, ⟨7, _⟩ => ⟨S3584x16, .f32⟩
  | .local _ .vmem, ⟨8, _⟩ => ⟨S16x14, .bf16⟩
  | .local _ .vmem, ⟨9, _⟩ => ⟨S128x32, .bf16⟩
  | .local _ .vmem, ⟨10, _⟩ => ⟨S1x32, .f32⟩
  | .local _ .vmem, ⟨11, _⟩ => ⟨S384x32, .bf16⟩
  | .local _ .vmem, ⟨12, _⟩ => ⟨S1x32, .f32⟩
  | .local _ .vmem, ⟨13, _⟩ => ⟨S32x16, .bf16⟩
  | .local _ .vmem, ⟨14, _⟩ => ⟨S128x512, .bf16⟩
  | .local _ .vmem, ⟨15, _⟩ => ⟨S1x512, .f32⟩
  | .local _ .vmem, ⟨16, _⟩ => ⟨S66x512, .bf16⟩
  | .local _ .vmem, ⟨17, _⟩ => ⟨S512x256, .bf16⟩
  | .local _ .vmem, ⟨18, _⟩ => ⟨S1x256, .f32⟩
  | .local _ .vmem, ⟨19, _⟩ => ⟨S256x72, .bf16⟩
  | .local _ .vmem, ⟨20, _⟩ => ⟨S1x64, .f32⟩
  | .local _ .vmem, ⟨21, _⟩ => ⟨S1x1, .f32⟩
  | .local _ .vmem, ⟨22, _⟩ => ⟨S64x8, .bf16⟩
  | .local _ .vmem, ⟨23, _⟩ => ⟨S1x1, .f32⟩
  | .local _ .vmem, ⟨24, _⟩ => ⟨S3584x1, .f32⟩
  | .local _ .vmem, ⟨25, _⟩ => ⟨S3584x1, .f32⟩
  | .local _ .vmem, ⟨26, _⟩ => ⟨S3584x1, .f32⟩
  | .local _ .vmem, ⟨27, _⟩ => ⟨S3584x1, .f32⟩
  | _, _ => ⟨S1024x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_cst : Ref sig .tc := ⟨.hbm, 20, rfl⟩
abbrev main_cst_0 : Ref sig .tc := ⟨.hbm, 21, rfl⟩
abbrev main_cst_1 : Ref sig .tc := ⟨.hbm, 22, rfl⟩
abbrev main_cst_2 : Ref sig .tc := ⟨.hbm, 23, rfl⟩
abbrev main_cst_3 : Ref sig .tc := ⟨.hbm, 24, rfl⟩
abbrev main_cst_4 : Ref sig .tc := ⟨.hbm, 25, rfl⟩
abbrev main_cst_5 : Ref sig .tc := ⟨.hbm, 26, rfl⟩
abbrev main_cst_6 : Ref sig .tc := ⟨.hbm, 27, rfl⟩
abbrev main_cst_7 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_c_8 : Ref sig .tc := ⟨.hbm, 35, rfl⟩
abbrev main_v6 : Ref sig .tc := ⟨.hbm, 36, rfl⟩
abbrev main_v7 : Ref sig .tc := ⟨.hbm, 37, rfl⟩
abbrev main_c_9 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_cst_10 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_c_11 : Ref sig .tc := ⟨.hbm, 48, rfl⟩
abbrev main_v16 : Ref sig .tc := ⟨.hbm, 49, rfl⟩
abbrev main_v17 : Ref sig .tc := ⟨.hbm, 50, rfl⟩
abbrev main_c_12 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_cst_13 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_cst_14 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_cst_15 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_cst_16 : Ref sig .tc := ⟨.hbm, 74, rfl⟩
abbrev main_v37 : Ref sig .tc := ⟨.hbm, 75, rfl⟩
abbrev main_c_17 : Ref sig .tc := ⟨.hbm, 76, rfl⟩
abbrev main_v38 : Ref sig .tc := ⟨.hbm, 77, rfl⟩
abbrev main_c_18 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_c_19 : Ref sig .tc := ⟨.hbm, 82, rfl⟩
abbrev main_v42 : Ref sig .tc := ⟨.hbm, 83, rfl⟩
abbrev main_c_20 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_cst_21 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_cst_22 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_cst_23 : Ref sig .tc := ⟨.hbm, 97, rfl⟩
abbrev main_v53 : Ref sig .tc := ⟨.hbm, 98, rfl⟩
abbrev main_cst_24 : Ref sig .tc := ⟨.hbm, 99, rfl⟩
abbrev main_v54 : Ref sig .tc := ⟨.hbm, 100, rfl⟩
abbrev main_v55 : Ref sig .tc := ⟨.hbm, 101, rfl⟩
abbrev main_c_25 : Ref sig .tc := ⟨.hbm, 102, rfl⟩
abbrev main_v56 : Ref sig .tc := ⟨.hbm, 103, rfl⟩
abbrev main_c_26 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_c_27 : Ref sig .tc := ⟨.hbm, 108, rfl⟩
abbrev main_v60 : Ref sig .tc := ⟨.hbm, 109, rfl⟩
abbrev main_c_28 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_cst_29 : Ref sig .tc := ⟨.hbm, 115, rfl⟩
abbrev main_v65 : Ref sig .tc := ⟨.hbm, 116, rfl⟩
abbrev main_c_30 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_cst_31 : Ref sig .tc := ⟨.hbm, 127, rfl⟩
abbrev main_call0_v0 : Ref sig .tc := ⟨.hbm, 128, rfl⟩
abbrev main_call0_v1 : Ref sig .tc := ⟨.hbm, 129, rfl⟩
abbrev main_v75 : Ref sig .tc := ⟨.hbm, 130, rfl⟩
abbrev main_v76 : Ref sig .tc := ⟨.hbm, 131, rfl⟩
abbrev main_cst_32 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_cst_33 : Ref sig .tc := ⟨.hbm, 137, rfl⟩
abbrev main_call1_v0 : Ref sig .tc := ⟨.hbm, 138, rfl⟩
abbrev main_call1_v1 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_cst_34 : Ref sig .tc := ⟨.hbm, 147, rfl⟩
abbrev main_cst_35 : Ref sig .tc := ⟨.hbm, 148, rfl⟩
abbrev main_call2_v0 : Ref sig .tc := ⟨.hbm, 149, rfl⟩
abbrev main_call2_v1 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_cst_36 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103_0 : Ref sig .tc := ⟨.hbm, 167, rfl⟩
abbrev main_v103_1 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg22_1 : Ref sig .tc := ⟨.vmem, 25, rfl⟩
abbrev cc0_stg23_0 : Ref sig .tc := ⟨.vmem, 26, rfl⟩
abbrev cc0_stg23_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem22_1 : DmaSem sig := 25
abbrev cc0_sem23_0 : DmaSem sig := 26
abbrev cc0_sem23_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3584x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3584x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3584x2 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3584x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x14 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x32 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S384x32 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x16 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S66x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x72 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S64x8 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S3584x1 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S3584x1 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== KernelIdeal.lean ====
variable {F : FTy → Type} [FloatOps F] [Named F]
def κ : String → Option EReal := fun
  | "half_over_c" => some ((8388608 / 11863283 : ℝ) : EReal)
  | "rlog2" => some (((Real.log 2)⁻¹ : ℝ) : EReal)
  | _ => none
-- ==== ReferenceIdeal.lean ====
abbrev S1024x8x128 : Shape := ⟨3, ![1024, 8, 128]⟩
abbrev S1024x128 : Shape := ⟨2, ![1024, 128]⟩
abbrev S1024x8 : Shape := ⟨2, ![1024, 8]⟩
abbrev S194x256 : Shape := ⟨2, ![194, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S128x1 : Shape := ⟨2, ![128, 1]⟩
abbrev S218x8 : Shape := ⟨2, ![218, 8]⟩
abbrev S10x14 : Shape := ⟨2, ![10, 14]⟩
abbrev S_ : Shape := ⟨0, ![]⟩
abbrev S1024x218 : Shape := ⟨2, ![1024, 218]⟩
abbrev S1024x8x1 : Shape := ⟨3, ![1024, 8, 1]⟩
abbrev S14 : Shape := ⟨1, ![14]⟩
abbrev S1x1x14 : Shape := ⟨3, ![1, 1, 14]⟩
abbrev S1024x8x14 : Shape := ⟨3, ![1024, 8, 14]⟩
abbrev S1024x14x218 : Shape := ⟨3, ![1024, 14, 218]⟩
abbrev S1024x218x14 : Shape := ⟨3, ![1024, 218, 14]⟩
abbrev S6 : Shape := ⟨1, ![6]⟩
abbrev S1x1x6 : Shape := ⟨3, ![1, 1, 6]⟩
abbrev S1024x8x6 : Shape := ⟨3, ![1024, 8, 6]⟩
abbrev S1024x6x218 : Shape := ⟨3, ![1024, 6, 218]⟩
abbrev S1024x218x6 : Shape := ⟨3, ![1024, 218, 6]⟩
abbrev S218 : Shape := ⟨1, ![218]⟩
abbrev S1x218 : Shape := ⟨2, ![1, 218]⟩
abbrev S1024x218x1 : Shape := ⟨3, ![1024, 218, 1]⟩
abbrev S1024x218x10 : Shape := ⟨3, ![1024, 218, 10]⟩
abbrev S1024x218x8 : Shape := ⟨3, ![1024, 218, 8]⟩
abbrev S1024x218x5 : Shape := ⟨3, ![1024, 218, 5]⟩
abbrev S1024x218x33 : Shape := ⟨3, ![1024, 218, 33]⟩
abbrev S1024x1x128 : Shape := ⟨3, ![1024, 1, 128]⟩
abbrev S1024x218x128 : Shape := ⟨3, ![1024, 218, 128]⟩
abbrev S1024x218x194 : Shape := ⟨3, ![1024, 218, 194]⟩
abbrev S1024x218x256 : Shape := ⟨3, ![1024, 218, 256]⟩
abbrev S1x1x256 : Shape := ⟨3, ![1, 1, 256]⟩
abbrev S1x1x128 : Shape := ⟨3, ![1, 1, 128]⟩
abbrev S1024x218x64 : Shape := ⟨3, ![1024, 218, 64]⟩
abbrev S1x1x64 : Shape := ⟨3, ![1, 1, 64]⟩
abbrev S1x1x1 : Shape := ⟨3, ![1, 1, 1]⟩

abbrev nBuf : Space → Nat
  | .hbm => 401
  | .vmem => 0
  | .smem => 0
  | _ => 0

abbrev hbmTy0_0 (i : Nat) : BufTy := match i % 128 with
  | 0 => ⟨S1024x8x128, .f32⟩
  | 1 => ⟨S1024x128, .f32⟩
  | 2 => ⟨S1024x8, .i32⟩
  | 3 => ⟨S1024x8, .i32⟩
  | 4 => ⟨S1024x8, .i32⟩
  | 5 => ⟨S194x256, .f32⟩
  | 6 => ⟨S256, .f32⟩
  | 7 => ⟨S256x128, .f32⟩
  | 8 => ⟨S128, .f32⟩
  | 9 => ⟨S128x64, .f32⟩
  | 10 => ⟨S64, .f32⟩
  | 11 => ⟨S64x1, .f32⟩
  | 12 => ⟨S1, .f32⟩
  | 13 => ⟨S194x256, .f32⟩
  | 14 => ⟨S256, .f32⟩
  | 15 => ⟨S256x128, .f32⟩
  | 16 => ⟨S128, .f32⟩
  | 17 => ⟨S128x1, .f32⟩
  | 18 => ⟨S1, .f32⟩
  | 19 => ⟨S218x8, .f32⟩
  | 20 => ⟨S10x14, .f32⟩
  | 21 => ⟨S_, .f32⟩
  | 22 => ⟨S218x8, .f32⟩
  | 23 => ⟨S218x8, .f32⟩
  | 24 => ⟨S_, .i32⟩
  | 25 => ⟨S1024x8, .i32⟩
  | 26 => ⟨S1024x8, .i1⟩
  | 27 => ⟨S_, .i32⟩
  | 28 => ⟨S1024x8, .i32⟩
  | 29 => ⟨S1024x8, .i1⟩
  | 30 => ⟨S1024x8, .i1⟩
  | 31 => ⟨S_, .i32⟩
  | 32 => ⟨S1024x8, .i32⟩
  | 33 => ⟨S1024x8, .i1⟩
  | 34 => ⟨S1024x8, .i1⟩
  | 35 => ⟨S1024x8, .f32⟩
  | 36 => ⟨S1024x218, .f32⟩
  | 37 => ⟨S_, .f32⟩
  | 38 => ⟨S1024x218, .f32⟩
  | 39 => ⟨S1024x218, .i1⟩
  | 40 => ⟨S1024x218, .i1⟩
  | 41 => ⟨S1024x8x1, .i32⟩
  | 42 => ⟨S14, .i32⟩
  | 43 => ⟨S1x1x14, .i32⟩
  | 44 => ⟨S1024x8x14, .i32⟩
  | 45 => ⟨S1024x8x14, .i32⟩
  | 46 => ⟨S1024x8x14, .i1⟩
  | 47 => ⟨S1024x8x14, .f32⟩
  | 48 => ⟨S1024x14x218, .f32⟩
  | 49 => ⟨S1024x218x14, .f32⟩
  | 50 => ⟨S14, .i32⟩
  | 51 => ⟨S_, .i32⟩
  | 52 => ⟨S14, .i32⟩
  | 53 => ⟨S14, .i1⟩
  | 54 => ⟨S_, .f32⟩
  | 55 => ⟨S_, .f32⟩
  | 56 => ⟨S1024x218x14, .i1⟩
  | 57 => ⟨S1024x218x14, .f32⟩
  | 58 => ⟨S1024x218x14, .f32⟩
  | 59 => ⟨S1024x8x1, .i32⟩
  | 60 => ⟨S6, .i32⟩
  | 61 => ⟨S1x1x6, .i32⟩
  | 62 => ⟨S1024x8x6, .i32⟩
  | 63 => ⟨S1024x8x6, .i32⟩
  | 64 => ⟨S1024x8x6, .i1⟩
  | 65 => ⟨S1024x8x6, .f32⟩
  | 66 => ⟨S1024x6x218, .f32⟩
  | 67 => ⟨S1024x218x6, .f32⟩
  | 68 => ⟨S6, .i32⟩
  | 69 => ⟨S_, .i32⟩
  | 70 => ⟨S6, .i32⟩
  | 71 => ⟨S6, .i1⟩
  | 72 => ⟨S_, .f32⟩
  | 73 => ⟨S_, .f32⟩
  | 74 => ⟨S1024x218x6, .i1⟩
  | 75 => ⟨S1024x218x6, .f32⟩
  | 76 => ⟨S1024x218x6, .f32⟩
  | 77 => ⟨S_, .f32⟩
  | 78 => ⟨S218, .f32⟩
  | 79 => ⟨S1x218, .f32⟩
  | 80 => ⟨S1024x218, .f32⟩
  | 81 => ⟨S_, .f32⟩
  | 82 => ⟨S1024x218, .f32⟩
  | 83 => ⟨S_, .f32⟩
  | 84 => ⟨S1024x218x14, .f32⟩
  | 85 => ⟨S1024x218x14, .i1⟩
  | 86 => ⟨S1024x218x14, .i32⟩
  | 87 => ⟨S_, .i32⟩
  | 88 => ⟨S1024x218, .i32⟩
  | 89 => ⟨S1024x218, .f32⟩
  | 90 => ⟨S_, .f32⟩
  | 91 => ⟨S1024x218, .f32⟩
  | 92 => ⟨S1024x218x1, .f32⟩
  | 93 => ⟨S1024x218, .f32⟩
  | 94 => ⟨S1024x218, .f32⟩
  | 95 => ⟨S1024x218x10, .f32⟩
  | 96 => ⟨S_, .f32⟩
  | 97 => ⟨S1024x218, .f32⟩
  | 98 => ⟨S_, .f32⟩
  | 99 => ⟨S1024x218, .f32⟩
  | 100 => ⟨S1024x218, .i1⟩
  | 101 => ⟨S_, .f32⟩
  | 102 => ⟨S1024x218, .f32⟩
  | 103 => ⟨S1024x218, .i1⟩
  | 104 => ⟨S1024x218, .i1⟩
  | 105 => ⟨S_, .f32⟩
  | 106 => ⟨S1024x218, .f32⟩
  | 107 => ⟨S1024x218, .i1⟩
  | 108 => ⟨S1024x218, .i1⟩
  | 109 => ⟨S_, .f32⟩
  | 110 => ⟨S1024x218, .f32⟩
  | 111 => ⟨S1024x218, .i1⟩
  | 112 => ⟨S_, .f32⟩
  | 113 => ⟨S1024x218, .f32⟩
  | 114 => ⟨S1024x218, .i1⟩
  | 115 => ⟨S1024x218, .i1⟩
  | 116 => ⟨S1024x218, .i1⟩
  | 117 => ⟨S_, .f32⟩
  | 118 => ⟨S1024x218, .f32⟩
  | 119 => ⟨S1024x218, .i1⟩
  | 120 => ⟨S_, .f32⟩
  | 121 => ⟨S1024x218, .f32⟩
  | 122 => ⟨S1024x218, .i1⟩
  | 123 => ⟨S1024x218, .i1⟩
  | 124 => ⟨S_, .f32⟩
  | 125 => ⟨S1024x218, .f32⟩
  | 126 => ⟨S1024x218, .i1⟩
  | 127 => ⟨S_, .f32⟩
  | _ => ⟨S1024x8x128, .f32⟩

abbrev hbmTy0_1 (i : Nat) : BufTy := match i % 128 with
  | 0 => ⟨S1024x218, .f32⟩
  | 1 => ⟨S1024x218, .i1⟩
  | 2 => ⟨S1024x218, .i1⟩
  | 3 => ⟨S_, .f32⟩
  | 4 => ⟨S1024x218, .f32⟩
  | 5 => ⟨S1024x218, .i1⟩
  | 6 => ⟨S_, .f32⟩
  | 7 => ⟨S1024x218, .f32⟩
  | 8 => ⟨S1024x218, .i1⟩
  | 9 => ⟨S1024x218, .i1⟩
  | 10 => ⟨S_, .f32⟩
  | 11 => ⟨S1024x218, .f32⟩
  | 12 => ⟨S1024x218, .i1⟩
  | 13 => ⟨S1024x218, .i1⟩
  | 14 => ⟨S1024x218, .i1⟩
  | 15 => ⟨S1024x218, .i1⟩
  | 16 => ⟨S_, .f32⟩
  | 17 => ⟨S1024x218, .f32⟩
  | 18 => ⟨S1024x218, .i1⟩
  | 19 => ⟨S1024x218, .i1⟩
  | 20 => ⟨S_, .f32⟩
  | 21 => ⟨S1024x218x14, .f32⟩
  | 22 => ⟨S1024x218x14, .i1⟩
  | 23 => ⟨S1024x218x14, .i32⟩
  | 24 => ⟨S_, .i32⟩
  | 25 => ⟨S1024x218, .i32⟩
  | 26 => ⟨S_, .f32⟩
  | 27 => ⟨S1024x218, .f32⟩
  | 28 => ⟨S1024x218, .i1⟩
  | 29 => ⟨S_, .i32⟩
  | 30 => ⟨S1024x218, .i32⟩
  | 31 => ⟨S1024x218, .i1⟩
  | 32 => ⟨S1024x218, .i1⟩
  | 33 => ⟨S1024x218x1, .i1⟩
  | 34 => ⟨S1024x218x1, .i1⟩
  | 35 => ⟨S1024x218x1, .i1⟩
  | 36 => ⟨S1024x218x1, .i1⟩
  | 37 => ⟨S1024x218x1, .i1⟩
  | 38 => ⟨S1024x218x1, .i1⟩
  | 39 => ⟨S1024x218x1, .i1⟩
  | 40 => ⟨S1024x218x1, .i1⟩
  | 41 => ⟨S1024x218x8, .i1⟩
  | 42 => ⟨S1024x218x8, .f32⟩
  | 43 => ⟨S1024x218x1, .f32⟩
  | 44 => ⟨S1024x218x1, .f32⟩
  | 45 => ⟨S1024x218x1, .f32⟩
  | 46 => ⟨S1024x218x1, .f32⟩
  | 47 => ⟨S1024x218x1, .f32⟩
  | 48 => ⟨S1024x218x5, .f32⟩
  | 49 => ⟨S1024x218x33, .f32⟩
  | 50 => ⟨S1024x8x1, .i32⟩
  | 51 => ⟨S14, .i32⟩
  | 52 => ⟨S1x1x14, .i32⟩
  | 53 => ⟨S1024x8x14, .i32⟩
  | 54 => ⟨S1024x8x14, .i32⟩
  | 55 => ⟨S1024x8x14, .i1⟩
  | 56 => ⟨S1024x8x14, .f32⟩
  | 57 => ⟨S1024x14x218, .f32⟩
  | 58 => ⟨S1024x218x14, .f32⟩
  | 59 => ⟨S14, .i32⟩
  | 60 => ⟨S_, .i32⟩
  | 61 => ⟨S14, .i32⟩
  | 62 => ⟨S14, .i1⟩
  | 63 => ⟨S_, .f32⟩
  | 64 => ⟨S_, .f32⟩
  | 65 => ⟨S1024x218x14, .i1⟩
  | 66 => ⟨S1024x218x14, .f32⟩
  | 67 => ⟨S1024x218x14, .f32⟩
  | 68 => ⟨S1024x8x1, .i32⟩
  | 69 => ⟨S6, .i32⟩
  | 70 => ⟨S1x1x6, .i32⟩
  | 71 => ⟨S1024x8x6, .i32⟩
  | 72 => ⟨S1024x8x6, .i32⟩
  | 73 => ⟨S1024x8x6, .i1⟩
  | 74 => ⟨S1024x8x6, .f32⟩
  | 75 => ⟨S1024x6x218, .f32⟩
  | 76 => ⟨S1024x218x6, .f32⟩
  | 77 => ⟨S6, .i32⟩
  | 78 => ⟨S_, .i32⟩
  | 79 => ⟨S6, .i32⟩
  | 80 => ⟨S6, .i1⟩
  | 81 => ⟨S_, .f32⟩
  | 82 => ⟨S_, .f32⟩
  | 83 => ⟨S1024x218x6, .i1⟩
  | 84 => ⟨S1024x218x6, .f32⟩
  | 85 => ⟨S1024x218x6, .f32⟩
  | 86 => ⟨S_, .f32⟩
  | 87 => ⟨S218, .f32⟩
  | 88 => ⟨S1x218, .f32⟩
  | 89 => ⟨S1024x218, .f32⟩
  | 90 => ⟨S_, .f32⟩
  | 91 => ⟨S1024x218, .f32⟩
  | 92 => ⟨S_, .f32⟩
  | 93 => ⟨S1024x218x14, .f32⟩
  | 94 => ⟨S1024x218x14, .i1⟩
  | 95 => ⟨S1024x218x14, .i32⟩
  | 96 => ⟨S_, .i32⟩
  | 97 => ⟨S1024x218, .i32⟩
  | 98 => ⟨S1024x218, .f32⟩
  | 99 => ⟨S_, .f32⟩
  | 100 => ⟨S1024x218, .f32⟩
  | 101 => ⟨S1024x218x1, .f32⟩
  | 102 => ⟨S1024x218, .f32⟩
  | 103 => ⟨S1024x218, .f32⟩
  | 104 => ⟨S1024x218x10, .f32⟩
  | 105 => ⟨S_, .f32⟩
  | 106 => ⟨S1024x218, .f32⟩
  | 107 => ⟨S_, .f32⟩
  | 108 => ⟨S1024x218, .f32⟩
  | 109 => ⟨S1024x218, .i1⟩
  | 110 => ⟨S_, .f32⟩
  | 111 => ⟨S1024x218, .f32⟩
  | 112 => ⟨S1024x218, .i1⟩
  | 113 => ⟨S1024x218, .i1⟩
  | 114 => ⟨S_, .f32⟩
  | 115 => ⟨S1024x218, .f32⟩
  | 116 => ⟨S1024x218, .i1⟩
  | 117 => ⟨S1024x218, .i1⟩
  | 118 => ⟨S_, .f32⟩
  | 119 => ⟨S1024x218, .f32⟩
  | 120 => ⟨S1024x218, .i1⟩
  | 121 => ⟨S_, .f32⟩
  | 122 => ⟨S1024x218, .f32⟩
  | 123 => ⟨S1024x218, .i1⟩
  | 124 => ⟨S1024x218, .i1⟩
  | 125 => ⟨S1024x218, .i1⟩
  | 126 => ⟨S_, .f32⟩
  | 127 => ⟨S1024x218, .f32⟩
  | _ => ⟨S1024x8x128, .f32⟩

abbrev hbmTy0_2 (i : Nat) : BufTy := match i % 128 with
  | 0 => ⟨S1024x218, .i1⟩
  | 1 => ⟨S_, .f32⟩
  | 2 => ⟨S1024x218, .f32⟩
  | 3 => ⟨S1024x218, .i1⟩
  | 4 => ⟨S1024x218, .i1⟩
  | 5 => ⟨S_, .f32⟩
  | 6 => ⟨S1024x218, .f32⟩
  | 7 => ⟨S1024x218, .i1⟩
  | 8 => ⟨S_, .f32⟩
  | 9 => ⟨S1024x218, .f32⟩
  | 10 => ⟨S1024x218, .i1⟩
  | 11 => ⟨S1024x218, .i1⟩
  | 12 => ⟨S_, .f32⟩
  | 13 => ⟨S1024x218, .f32⟩
  | 14 => ⟨S1024x218, .i1⟩
  | 15 => ⟨S_, .f32⟩
  | 16 => ⟨S1024x218, .f32⟩
  | 17 => ⟨S1024x218, .i1⟩
  | 18 => ⟨S1024x218, .i1⟩
  | 19 => ⟨S_, .f32⟩
  | 20 => ⟨S1024x218, .f32⟩
  | 21 => ⟨S1024x218, .i1⟩
  | 22 => ⟨S1024x218, .i1⟩
  | 23 => ⟨S1024x218, .i1⟩
  | 24 => ⟨S1024x218, .i1⟩
  | 25 => ⟨S_, .f32⟩
  | 26 => ⟨S1024x218, .f32⟩
  | 27 => ⟨S1024x218, .i1⟩
  | 28 => ⟨S1024x218, .i1⟩
  | 29 => ⟨S_, .f32⟩
  | 30 => ⟨S1024x218x14, .f32⟩
  | 31 => ⟨S1024x218x14, .i1⟩
  | 32 => ⟨S1024x218x14, .i32⟩
  | 33 => ⟨S_, .i32⟩
  | 34 => ⟨S1024x218, .i32⟩
  | 35 => ⟨S_, .f32⟩
  | 36 => ⟨S1024x218, .f32⟩
  | 37 => ⟨S1024x218, .i1⟩
  | 38 => ⟨S_, .i32⟩
  | 39 => ⟨S1024x218, .i32⟩
  | 40 => ⟨S1024x218, .i1⟩
  | 41 => ⟨S1024x218, .i1⟩
  | 42 => ⟨S1024x218x1, .i1⟩
  | 43 => ⟨S1024x218x1, .i1⟩
  | 44 => ⟨S1024x218x1, .i1⟩
  | 45 => ⟨S1024x218x1, .i1⟩
  | 46 => ⟨S1024x218x1, .i1⟩
  | 47 => ⟨S1024x218x1, .i1⟩
  | 48 => ⟨S1024x218x1, .i1⟩
  | 49 => ⟨S1024x218x1, .i1⟩
  | 50 => ⟨S1024x218x8, .i1⟩
  | 51 => ⟨S1024x218x8, .f32⟩
  | 52 => ⟨S1024x218x1, .f32⟩
  | 53 => ⟨S1024x218x1, .f32⟩
  | 54 => ⟨S1024x218x1, .f32⟩
  | 55 => ⟨S1024x218x1, .f32⟩
  | 56 => ⟨S1024x218x1, .f32⟩
  | 57 => ⟨S1024x218x5, .f32⟩
  | 58 => ⟨S1024x218x33, .f32⟩
  | 59 => ⟨S1024x1x128, .f32⟩
  | 60 => ⟨S1024x218x128, .f32⟩
  | 61 => ⟨S1024x218x194, .f32⟩
  | 62 => ⟨S1024x218x256, .f32⟩
  | 63 => ⟨S1x1x256, .f32⟩
  | 64 => ⟨S1024x218x256, .f32⟩
  | 65 => ⟨S1024x218x256, .f32⟩
  | 66 => ⟨S_, .f32⟩
  | 67 => ⟨S1024x218x256, .f32⟩
  | 68 => ⟨S1024x218x256, .f32⟩
  | 69 => ⟨S1024x218x256, .f32⟩
  | 70 => ⟨S_, .f32⟩
  | 71 => ⟨S1024x218x256, .f32⟩
  | 72 => ⟨S1024x218x256, .f32⟩
  | 73 => ⟨S1024x218x256, .f32⟩
  | 74 => ⟨S1024x218x256, .f32⟩
  | 75 => ⟨S1024x218x128, .f32⟩
  | 76 => ⟨S1x1x128, .f32⟩
  | 77 => ⟨S1024x218x128, .f32⟩
  | 78 => ⟨S1024x218x128, .f32⟩
  | 79 => ⟨S_, .f32⟩
  | 80 => ⟨S1024x218x128, .f32⟩
  | 81 => ⟨S1024x218x128, .f32⟩
  | 82 => ⟨S1024x218x128, .f32⟩
  | 83 => ⟨S_, .f32⟩
  | 84 => ⟨S1024x218x128, .f32⟩
  | 85 => ⟨S1024x218x128, .f32⟩
  | 86 => ⟨S1024x218x128, .f32⟩
  | 87 => ⟨S1024x218x128, .f32⟩
  | 88 => ⟨S1024x218x64, .f32⟩
  | 89 => ⟨S1x1x64, .f32⟩
  | 90 => ⟨S1024x218x64, .f32⟩
  | 91 => ⟨S1024x218x64, .f32⟩
  | 92 => ⟨S_, .f32⟩
  | 93 => ⟨S1024x218x64, .f32⟩
  | 94 => ⟨S1024x218x64, .f32⟩
  | 95 => ⟨S1024x218x64, .f32⟩
  | 96 => ⟨S_, .f32⟩
  | 97 => ⟨S1024x218x64, .f32⟩
  | 98 => ⟨S1024x218x64, .f32⟩
  | 99 => ⟨S1024x218x64, .f32⟩
  | 100 => ⟨S1024x218x64, .f32⟩
  | 101 => ⟨S1024x218x1, .f32⟩
  | 102 => ⟨S1x1x1, .f32⟩
  | 103 => ⟨S1024x218x1, .f32⟩
  | 104 => ⟨S1024x218x1, .f32⟩
  | 105 => ⟨S1024x218, .f32⟩
  | 106 => ⟨S1024x218x256, .f32⟩
  | 107 => ⟨S1x1x256, .f32⟩
  | 108 => ⟨S1024x218x256, .f32⟩
  | 109 => ⟨S1024x218x256, .f32⟩
  | 110 => ⟨S_, .f32⟩
  | 111 => ⟨S1024x218x256, .f32⟩
  | 112 => ⟨S1024x218x256, .f32⟩
  | 113 => ⟨S1024x218x256, .f32⟩
  | 114 => ⟨S_, .f32⟩
  | 115 => ⟨S1024x218x256, .f32⟩
  | 116 => ⟨S1024x218x256, .f32⟩
  | 117 => ⟨S1024x218x256, .f32⟩
  | 118 => ⟨S1024x218x256, .f32⟩
  | 119 => ⟨S1024x218x128, .f32⟩
  | 120 => ⟨S1x1x128, .f32⟩
  | 121 => ⟨S1024x218x128, .f32⟩
  | 122 => ⟨S1024x218x128, .f32⟩
  | 123 => ⟨S_, .f32⟩
  | 124 => ⟨S1024x218x128, .f32⟩
  | 125 => ⟨S1024x218x128, .f32⟩
  | 126 => ⟨S1024x218x128, .f32⟩
  | 127 => ⟨S_, .f32⟩
  | _ => ⟨S1024x8x128, .f32⟩

abbrev hbmTy0_3 (i : Nat) : BufTy := match i % 128 with
  | 0 => ⟨S1024x218x128, .f32⟩
  | 1 => ⟨S1024x218x128, .f32⟩
  | 2 => ⟨S1024x218x128, .f32⟩
  | 3 => ⟨S1024x218x128, .f32⟩
  | 4 => ⟨S1024x218x1, .f32⟩
  | 5 => ⟨S1x1x1, .f32⟩
  | 6 => ⟨S1024x218x1, .f32⟩
  | 7 => ⟨S1024x218x1, .f32⟩
  | 8 => ⟨S_, .f32⟩
  | 9 => ⟨S_, .f32⟩
  | 10 => ⟨S1024x218, .f32⟩
  | 11 => ⟨S1024x218, .f32⟩
  | 12 => ⟨S1024x218x1, .i1⟩
  | 13 => ⟨S_, .f32⟩
  | 14 => ⟨S_, .f32⟩
  | 15 => ⟨S1024x218x1, .f32⟩
  | 16 => ⟨S1024x218x1, .f32⟩
  | _ => ⟨S1024x8x128, .f32⟩

abbrev hbmTy (i : Nat) : BufTy := match i / 128 with
  | 0 => hbmTy0_0 i
  | 1 => hbmTy0_1 i
  | 2 => hbmTy0_2 i
  | 3 => hbmTy0_3 i
  | _ => ⟨S1024x8x128, .f32⟩

abbrev bufTy : (tb : Table) → Fin (tcTables nBuf tb) → BufTy
  | .hbm, ⟨i, _⟩ => hbmTy i
  | _, _ => ⟨S1024x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_cst_0 : Ref sig .tc := ⟨.hbm, 20, rfl⟩
abbrev main_cst_1 : Ref sig .tc := ⟨.hbm, 21, rfl⟩
abbrev main_v0 : Ref sig .tc := ⟨.hbm, 22, rfl⟩
abbrev main_v1 : Ref sig .tc := ⟨.hbm, 23, rfl⟩
abbrev main_c : Ref sig .tc := ⟨.hbm, 24, rfl⟩
abbrev main_v2 : Ref sig .tc := ⟨.hbm, 25, rfl⟩
abbrev main_v3 : Ref sig .tc := ⟨.hbm, 26, rfl⟩
abbrev main_c_2 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_c_3 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst_4 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_c_5 : Ref sig .tc := ⟨.hbm, 51, rfl⟩
abbrev main_v25 : Ref sig .tc := ⟨.hbm, 52, rfl⟩
abbrev main_v26 : Ref sig .tc := ⟨.hbm, 53, rfl⟩
abbrev main_cst_6 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_c_7 : Ref sig .tc := ⟨.hbm, 69, rfl⟩
abbrev main_v38 : Ref sig .tc := ⟨.hbm, 70, rfl⟩
abbrev main_v39 : Ref sig .tc := ⟨.hbm, 71, rfl⟩
abbrev main_cst_8 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_v40 : Ref sig .tc := ⟨.hbm, 76, rfl⟩
abbrev main_cst_9 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_cst_10 : Ref sig .tc := ⟨.hbm, 81, rfl⟩
abbrev main_v44 : Ref sig .tc := ⟨.hbm, 82, rfl⟩
abbrev main_cst_11 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_c_12 : Ref sig .tc := ⟨.hbm, 87, rfl⟩
abbrev main_v48 : Ref sig .tc := ⟨.hbm, 88, rfl⟩
abbrev main_v49 : Ref sig .tc := ⟨.hbm, 89, rfl⟩
abbrev main_cst_13 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_cst_14 : Ref sig .tc := ⟨.hbm, 96, rfl⟩
abbrev main_v55 : Ref sig .tc := ⟨.hbm, 97, rfl⟩
abbrev main_cst_15 : Ref sig .tc := ⟨.hbm, 98, rfl⟩
abbrev main_v56 : Ref sig .tc := ⟨.hbm, 99, rfl⟩
abbrev main_v57 : Ref sig .tc := ⟨.hbm, 100, rfl⟩
abbrev main_cst_16 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_cst_17 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_cst_18 : Ref sig .tc := ⟨.hbm, 109, rfl⟩
abbrev main_v64 : Ref sig .tc := ⟨.hbm, 110, rfl⟩
abbrev main_v65 : Ref sig .tc := ⟨.hbm, 111, rfl⟩
abbrev main_cst_19 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_cst_20 : Ref sig .tc := ⟨.hbm, 117, rfl⟩
abbrev main_v70 : Ref sig .tc := ⟨.hbm, 118, rfl⟩
abbrev main_v71 : Ref sig .tc := ⟨.hbm, 119, rfl⟩
abbrev main_cst_21 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_cst_22 : Ref sig .tc := ⟨.hbm, 124, rfl⟩
abbrev main_v75 : Ref sig .tc := ⟨.hbm, 125, rfl⟩
abbrev main_v76 : Ref sig .tc := ⟨.hbm, 126, rfl⟩
abbrev main_cst_23 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_cst_24 : Ref sig .tc := ⟨.hbm, 131, rfl⟩
abbrev main_v80 : Ref sig .tc := ⟨.hbm, 132, rfl⟩
abbrev main_v81 : Ref sig .tc := ⟨.hbm, 133, rfl⟩
abbrev main_cst_25 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_cst_26 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_cst_27 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_cst_28 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_c_29 : Ref sig .tc := ⟨.hbm, 152, rfl⟩
abbrev main_v96 : Ref sig .tc := ⟨.hbm, 153, rfl⟩
abbrev main_cst_30 : Ref sig .tc := ⟨.hbm, 154, rfl⟩
abbrev main_v97 : Ref sig .tc := ⟨.hbm, 155, rfl⟩
abbrev main_v98 : Ref sig .tc := ⟨.hbm, 156, rfl⟩
abbrev main_c_31 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_c_32 : Ref sig .tc := ⟨.hbm, 188, rfl⟩
abbrev main_v129 : Ref sig .tc := ⟨.hbm, 189, rfl⟩
abbrev main_v130 : Ref sig .tc := ⟨.hbm, 190, rfl⟩
abbrev main_cst_33 : Ref sig .tc := ⟨.hbm, 191, rfl⟩
abbrev main_call2_v0 : Ref sig .tc := ⟨.hbm, 192, rfl⟩
abbrev main_call2_v1 : Ref sig .tc := ⟨.hbm, 193, rfl⟩
abbrev main_call2_v2 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_c_34 : Ref sig .tc := ⟨.hbm, 206, rfl⟩
abbrev main_v142 : Ref sig .tc := ⟨.hbm, 207, rfl⟩
abbrev main_v143 : Ref sig .tc := ⟨.hbm, 208, rfl⟩
abbrev main_cst_35 : Ref sig .tc := ⟨.hbm, 209, rfl⟩
abbrev main_call3_v0 : Ref sig .tc := ⟨.hbm, 210, rfl⟩
abbrev main_call3_v1 : Ref sig .tc := ⟨.hbm, 211, rfl⟩
abbrev main_call3_v2 : Ref sig .tc := ⟨.hbm, 212, rfl⟩
abbrev main_v144 : Ref sig .tc := ⟨.hbm, 213, rfl⟩
abbrev main_cst_36 : Ref sig .tc := ⟨.hbm, 214, rfl⟩
abbrev main_v145 : Ref sig .tc := ⟨.hbm, 215, rfl⟩
abbrev main_v146 : Ref sig .tc := ⟨.hbm, 216, rfl⟩
abbrev main_v147 : Ref sig .tc := ⟨.hbm, 217, rfl⟩
abbrev main_cst_37 : Ref sig .tc := ⟨.hbm, 218, rfl⟩
abbrev main_v148 : Ref sig .tc := ⟨.hbm, 219, rfl⟩
abbrev main_cst_38 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_c_39 : Ref sig .tc := ⟨.hbm, 224, rfl⟩
abbrev main_v152 : Ref sig .tc := ⟨.hbm, 225, rfl⟩
abbrev main_v153 : Ref sig .tc := ⟨.hbm, 226, rfl⟩
abbrev main_cst_40 : Ref sig .tc := ⟨.hbm, 227, rfl⟩
abbrev main_v154 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩
abbrev main_v158 : Ref sig .tc := ⟨.hbm, 232, rfl⟩
abbrev main_cst_41 : Ref sig .tc := ⟨.hbm, 233, rfl⟩
abbrev main_v159 : Ref sig .tc := ⟨.hbm, 234, rfl⟩
abbrev main_cst_42 : Ref sig .tc := ⟨.hbm, 235, rfl⟩
abbrev main_v160 : Ref sig .tc := ⟨.hbm, 236, rfl⟩
abbrev main_v161 : Ref sig .tc := ⟨.hbm, 237, rfl⟩
abbrev main_cst_43 : Ref sig .tc := ⟨.hbm, 238, rfl⟩
abbrev main_v162 : Ref sig .tc := ⟨.hbm, 239, rfl⟩
abbrev main_v163 : Ref sig .tc := ⟨.hbm, 240, rfl⟩
abbrev main_v164 : Ref sig .tc := ⟨.hbm, 241, rfl⟩
abbrev main_cst_44 : Ref sig .tc := ⟨.hbm, 242, rfl⟩
abbrev main_v165 : Ref sig .tc := ⟨.hbm, 243, rfl⟩
abbrev main_v166 : Ref sig .tc := ⟨.hbm, 244, rfl⟩
abbrev main_v167 : Ref sig .tc := ⟨.hbm, 245, rfl⟩
abbrev main_cst_45 : Ref sig .tc := ⟨.hbm, 246, rfl⟩
abbrev main_v168 : Ref sig .tc := ⟨.hbm, 247, rfl⟩
abbrev main_v169 : Ref sig .tc := ⟨.hbm, 248, rfl⟩
abbrev main_cst_46 : Ref sig .tc := ⟨.hbm, 249, rfl⟩
abbrev main_v170 : Ref sig .tc := ⟨.hbm, 250, rfl⟩
abbrev main_v171 : Ref sig .tc := ⟨.hbm, 251, rfl⟩
abbrev main_v172 : Ref sig .tc := ⟨.hbm, 252, rfl⟩
abbrev main_v173 : Ref sig .tc := ⟨.hbm, 253, rfl⟩
abbrev main_cst_47 : Ref sig .tc := ⟨.hbm, 254, rfl⟩
abbrev main_v174 : Ref sig .tc := ⟨.hbm, 255, rfl⟩
abbrev main_v175 : Ref sig .tc := ⟨.hbm, 256, rfl⟩
abbrev main_cst_48 : Ref sig .tc := ⟨.hbm, 257, rfl⟩
abbrev main_v176 : Ref sig .tc := ⟨.hbm, 258, rfl⟩
abbrev main_v177 : Ref sig .tc := ⟨.hbm, 259, rfl⟩
abbrev main_v178 : Ref sig .tc := ⟨.hbm, 260, rfl⟩
abbrev main_cst_49 : Ref sig .tc := ⟨.hbm, 261, rfl⟩
abbrev main_v179 : Ref sig .tc := ⟨.hbm, 262, rfl⟩
abbrev main_v180 : Ref sig .tc := ⟨.hbm, 263, rfl⟩
abbrev main_cst_50 : Ref sig .tc := ⟨.hbm, 264, rfl⟩
abbrev main_v181 : Ref sig .tc := ⟨.hbm, 265, rfl⟩
abbrev main_v182 : Ref sig .tc := ⟨.hbm, 266, rfl⟩
abbrev main_v183 : Ref sig .tc := ⟨.hbm, 267, rfl⟩
abbrev main_cst_51 : Ref sig .tc := ⟨.hbm, 268, rfl⟩
abbrev main_v184 : Ref sig .tc := ⟨.hbm, 269, rfl⟩
abbrev main_v185 : Ref sig .tc := ⟨.hbm, 270, rfl⟩
abbrev main_cst_52 : Ref sig .tc := ⟨.hbm, 271, rfl⟩
abbrev main_v186 : Ref sig .tc := ⟨.hbm, 272, rfl⟩
abbrev main_v187 : Ref sig .tc := ⟨.hbm, 273, rfl⟩
abbrev main_v188 : Ref sig .tc := ⟨.hbm, 274, rfl⟩
abbrev main_cst_53 : Ref sig .tc := ⟨.hbm, 275, rfl⟩
abbrev main_v189 : Ref sig .tc := ⟨.hbm, 276, rfl⟩
abbrev main_v190 : Ref sig .tc := ⟨.hbm, 277, rfl⟩
abbrev main_v191 : Ref sig .tc := ⟨.hbm, 278, rfl⟩
abbrev main_v192 : Ref sig .tc := ⟨.hbm, 279, rfl⟩
abbrev main_v193 : Ref sig .tc := ⟨.hbm, 280, rfl⟩
abbrev main_cst_54 : Ref sig .tc := ⟨.hbm, 281, rfl⟩
abbrev main_v194 : Ref sig .tc := ⟨.hbm, 282, rfl⟩
abbrev main_v195 : Ref sig .tc := ⟨.hbm, 283, rfl⟩
abbrev main_v196 : Ref sig .tc := ⟨.hbm, 284, rfl⟩
abbrev main_cst_55 : Ref sig .tc := ⟨.hbm, 285, rfl⟩
abbrev main_v197 : Ref sig .tc := ⟨.hbm, 286, rfl⟩
abbrev main_v198 : Ref sig .tc := ⟨.hbm, 287, rfl⟩
abbrev main_v199 : Ref sig .tc := ⟨.hbm, 288, rfl⟩
abbrev main_c_56 : Ref sig .tc := ⟨.hbm, 289, rfl⟩
abbrev main_v200 : Ref sig .tc := ⟨.hbm, 290, rfl⟩
abbrev main_cst_57 : Ref sig .tc := ⟨.hbm, 291, rfl⟩
abbrev main_v201 : Ref sig .tc := ⟨.hbm, 292, rfl⟩
abbrev main_v202 : Ref sig .tc := ⟨.hbm, 293, rfl⟩
abbrev main_c_58 : Ref sig .tc := ⟨.hbm, 294, rfl⟩
abbrev main_v203 : Ref sig .tc := ⟨.hbm, 295, rfl⟩
abbrev main_v204 : Ref sig .tc := ⟨.hbm, 296, rfl⟩
abbrev main_v205 : Ref sig .tc := ⟨.hbm, 297, rfl⟩
abbrev main_v206 : Ref sig .tc := ⟨.hbm, 298, rfl⟩
abbrev main_v207 : Ref sig .tc := ⟨.hbm, 299, rfl⟩
abbrev main_v208 : Ref sig .tc := ⟨.hbm, 300, rfl⟩
abbrev main_v209 : Ref sig .tc := ⟨.hbm, 301, rfl⟩
abbrev main_v210 : Ref sig .tc := ⟨.hbm, 302, rfl⟩
abbrev main_v211 : Ref sig .tc := ⟨.hbm, 303, rfl⟩
abbrev main_v212 : Ref sig .tc := ⟨.hbm, 304, rfl⟩
abbrev main_v213 : Ref sig .tc := ⟨.hbm, 305, rfl⟩
abbrev main_v214 : Ref sig .tc := ⟨.hbm, 306, rfl⟩
abbrev main_v215 : Ref sig .tc := ⟨.hbm, 307, rfl⟩
abbrev main_v216 : Ref sig .tc := ⟨.hbm, 308, rfl⟩
abbrev main_v217 : Ref sig .tc := ⟨.hbm, 309, rfl⟩
abbrev main_v218 : Ref sig .tc := ⟨.hbm, 310, rfl⟩
abbrev main_v219 : Ref sig .tc := ⟨.hbm, 311, rfl⟩
abbrev main_v220 : Ref sig .tc := ⟨.hbm, 312, rfl⟩
abbrev main_v221 : Ref sig .tc := ⟨.hbm, 313, rfl⟩
abbrev main_v222 : Ref sig .tc := ⟨.hbm, 314, rfl⟩
abbrev main_v223 : Ref sig .tc := ⟨.hbm, 315, rfl⟩
abbrev main_v224 : Ref sig .tc := ⟨.hbm, 316, rfl⟩
abbrev main_v225 : Ref sig .tc := ⟨.hbm, 317, rfl⟩
abbrev main_v226 : Ref sig .tc := ⟨.hbm, 318, rfl⟩
abbrev main_v227 : Ref sig .tc := ⟨.hbm, 319, rfl⟩
abbrev main_v228 : Ref sig .tc := ⟨.hbm, 320, rfl⟩
abbrev main_v229 : Ref sig .tc := ⟨.hbm, 321, rfl⟩
abbrev main_cst_59 : Ref sig .tc := ⟨.hbm, 322, rfl⟩
abbrev main_v230 : Ref sig .tc := ⟨.hbm, 323, rfl⟩
abbrev main_v231 : Ref sig .tc := ⟨.hbm, 324, rfl⟩
abbrev main_v232 : Ref sig .tc := ⟨.hbm, 325, rfl⟩
abbrev main_cst_60 : Ref sig .tc := ⟨.hbm, 326, rfl⟩
abbrev main_v233 : Ref sig .tc := ⟨.hbm, 327, rfl⟩
abbrev main_v234 : Ref sig .tc := ⟨.hbm, 328, rfl⟩
abbrev main_v235 : Ref sig .tc := ⟨.hbm, 329, rfl⟩
abbrev main_v236 : Ref sig .tc := ⟨.hbm, 330, rfl⟩
abbrev main_v237 : Ref sig .tc := ⟨.hbm, 331, rfl⟩
abbrev main_v238 : Ref sig .tc := ⟨.hbm, 332, rfl⟩
abbrev main_v239 : Ref sig .tc := ⟨.hbm, 333, rfl⟩
abbrev main_v240 : Ref sig .tc := ⟨.hbm, 334, rfl⟩
abbrev main_cst_61 : Ref sig .tc := ⟨.hbm, 335, rfl⟩
abbrev main_v241 : Ref sig .tc := ⟨.hbm, 336, rfl⟩
abbrev main_v242 : Ref sig .tc := ⟨.hbm, 337, rfl⟩
abbrev main_v243 : Ref sig .tc := ⟨.hbm, 338, rfl⟩
abbrev main_cst_62 : Ref sig .tc := ⟨.hbm, 339, rfl⟩
abbrev main_v244 : Ref sig .tc := ⟨.hbm, 340, rfl⟩
abbrev main_v245 : Ref sig .tc := ⟨.hbm, 341, rfl⟩
abbrev main_v246 : Ref sig .tc := ⟨.hbm, 342, rfl⟩
abbrev main_v247 : Ref sig .tc := ⟨.hbm, 343, rfl⟩
abbrev main_v248 : Ref sig .tc := ⟨.hbm, 344, rfl⟩
abbrev main_v249 : Ref sig .tc := ⟨.hbm, 345, rfl⟩
abbrev main_v250 : Ref sig .tc := ⟨.hbm, 346, rfl⟩
abbrev main_v251 : Ref sig .tc := ⟨.hbm, 347, rfl⟩
abbrev main_cst_63 : Ref sig .tc := ⟨.hbm, 348, rfl⟩
abbrev main_v252 : Ref sig .tc := ⟨.hbm, 349, rfl⟩
abbrev main_v253 : Ref sig .tc := ⟨.hbm, 350, rfl⟩
abbrev main_v254 : Ref sig .tc := ⟨.hbm, 351, rfl⟩
abbrev main_cst_64 : Ref sig .tc := ⟨.hbm, 352, rfl⟩
abbrev main_v255 : Ref sig .tc := ⟨.hbm, 353, rfl⟩
abbrev main_v256 : Ref sig .tc := ⟨.hbm, 354, rfl⟩
abbrev main_v257 : Ref sig .tc := ⟨.hbm, 355, rfl⟩
abbrev main_v258 : Ref sig .tc := ⟨.hbm, 356, rfl⟩
abbrev main_v259 : Ref sig .tc := ⟨.hbm, 357, rfl⟩
abbrev main_v260 : Ref sig .tc := ⟨.hbm, 358, rfl⟩
abbrev main_v261 : Ref sig .tc := ⟨.hbm, 359, rfl⟩
abbrev main_v262 : Ref sig .tc := ⟨.hbm, 360, rfl⟩
abbrev main_v263 : Ref sig .tc := ⟨.hbm, 361, rfl⟩
abbrev main_v264 : Ref sig .tc := ⟨.hbm, 362, rfl⟩
abbrev main_v265 : Ref sig .tc := ⟨.hbm, 363, rfl⟩
abbrev main_v266 : Ref sig .tc := ⟨.hbm, 364, rfl⟩
abbrev main_v267 : Ref sig .tc := ⟨.hbm, 365, rfl⟩
abbrev main_cst_65 : Ref sig .tc := ⟨.hbm, 366, rfl⟩
abbrev main_v268 : Ref sig .tc := ⟨.hbm, 367, rfl⟩
abbrev main_v269 : Ref sig .tc := ⟨.hbm, 368, rfl⟩
abbrev main_v270 : Ref sig .tc := ⟨.hbm, 369, rfl⟩
abbrev main_cst_66 : Ref sig .tc := ⟨.hbm, 370, rfl⟩
abbrev main_v271 : Ref sig .tc := ⟨.hbm, 371, rfl⟩
abbrev main_v272 : Ref sig .tc := ⟨.hbm, 372, rfl⟩
abbrev main_v273 : Ref sig .tc := ⟨.hbm, 373, rfl⟩
abbrev main_v274 : Ref sig .tc := ⟨.hbm, 374, rfl⟩
abbrev main_v275 : Ref sig .tc := ⟨.hbm, 375, rfl⟩
abbrev main_v276 : Ref sig .tc := ⟨.hbm, 376, rfl⟩
abbrev main_v277 : Ref sig .tc := ⟨.hbm, 377, rfl⟩
abbrev main_v278 : Ref sig .tc := ⟨.hbm, 378, rfl⟩
abbrev main_cst_67 : Ref sig .tc := ⟨.hbm, 379, rfl⟩
abbrev main_v279 : Ref sig .tc := ⟨.hbm, 380, rfl⟩
abbrev main_v280 : Ref sig .tc := ⟨.hbm, 381, rfl⟩
abbrev main_v281 : Ref sig .tc := ⟨.hbm, 382, rfl⟩
abbrev main_cst_68 : Ref sig .tc := ⟨.hbm, 383, rfl⟩
abbrev main_v282 : Ref sig .tc := ⟨.hbm, 384, rfl⟩
abbrev main_v283 : Ref sig .tc := ⟨.hbm, 385, rfl⟩
abbrev main_v284 : Ref sig .tc := ⟨.hbm, 386, rfl⟩
abbrev main_v285 : Ref sig .tc := ⟨.hbm, 387, rfl⟩
abbrev main_v286 : Ref sig .tc := ⟨.hbm, 388, rfl⟩
abbrev main_v287 : Ref sig .tc := ⟨.hbm, 389, rfl⟩
abbrev main_v288 : Ref sig .tc := ⟨.hbm, 390, rfl⟩
abbrev main_v289 : Ref sig .tc := ⟨.hbm, 391, rfl⟩
abbrev main_cst_69 : Ref sig .tc := ⟨.hbm, 392, rfl⟩
abbrev main_call4_v0 : Ref sig .tc := ⟨.hbm, 393, rfl⟩
abbrev main_call4_v1 : Ref sig .tc := ⟨.hbm, 394, rfl⟩
abbrev main_v290 : Ref sig .tc := ⟨.hbm, 395, rfl⟩
abbrev main_v291 : Ref sig .tc := ⟨.hbm, 396, rfl⟩
abbrev main_cst_70 : Ref sig .tc := ⟨.hbm, 397, rfl⟩
abbrev main_call5_v0 : Ref sig .tc := ⟨.hbm, 398, rfl⟩
abbrev main_call5_v1 : Ref sig .tc := ⟨.hbm, 399, rfl⟩
abbrev main_v292 : Ref sig .tc := ⟨.hbm, 400, rfl⟩

abbrev nD : Nat := 1
abbrev τ : Topo := Topo.v7x

variable {F : FTy → Type} [FloatOps F]
-- ==== Proof.KerBlk.lean ====
module

public import proofs.«01_k».proof.Proof.Gen.KernelIdeal.Frame
public import Idealize.ShloMosaic.Lib.Pipeline.ValueKit
public import Idealize.ShloMosaic.Lib.Pointwise

@[expose] public section

set_option maxRecDepth 16384

/-! What each window's block holds, by the array it is cut from. -/

noncomputable section

namespace Cert.KerBlk

open Idealize.ShloMosaic Idealize.ShloMosaic.TcCoe Cert.KernelIdeal Cert.KernelIdeal.Gen

variable (m : (ℓ : Loc nD τ sig) → Buf (Elt Ideal) ℓ) (c : Dev nD) (t : Fin cfg0.N)

/-- A window's block at an index, by the index of the array that it stands for. -/
theorem blk_at (w : Fin cfg0.W) (y : ((cfg0.win w).xblock (cfg0.grid.coords t)).Idx) (i : (cfg0.win w).shape.Idx)
    (h : ∀ a, (cfg0.win w).kind.off ((cfg0.win w).index t a) ((cfg0.win w).size a) + (y a).val = (i a).val) :
    iblk m c w t y = (cfg0.win w).arr.view.read (Elt Ideal) (V m c (Pipeline.arrRef spec0 w)) i :=
  congrArg (fun z => (cfg0.win w).arr.view.read (Elt Ideal) (V m c (Pipeline.arrRef spec0 w)) z)
    (funext fun a => Fin.ext ((ValueKit.rect_emb_unit_val _ _ _ y a).trans (h a)) : ((cfg0.win w).rect t).emb y = i)

/-- Where the blocks of the two windows that move with the grid start. -/
theorem offset_moving : ∀ t : Fin cfg0.N, (win0_0.index t 0 * 128 = t.val * 128 ∧ win0_0.index t 1 * 3 = 0)
    ∧ (win0_1.index t 0 * 16 = t.val * 16 ∧ win0_1.index t 1 * 128 = 0) :=
  (by decide +kernel : ∀ t : Fin grid0.N, _)

/-- Windows 2 to 21 start at zero at every point of the grid. -/
theorem offset_zero : ∀ w : Fin cfg0.W, 2 ≤ w.val → w.val < 22 → ∀ (t : Fin cfg0.N) (a : Fin (cfg0.win w).shape.rank),
    (cfg0.win w).kind.off ((cfg0.win w).index t a) ((cfg0.win w).size a) = 0 := by
  decide +kernel

/-- A block of one of these, at an index, is the array at the same index. -/
theorem blk_whole (w : Fin cfg0.W) (h2 : 2 ≤ w.val) (h22 : w.val < 22) (y : ((cfg0.win w).xblock (cfg0.grid.coords t)).Idx)
    (i : (cfg0.win w).shape.Idx) (h : ∀ a, (y a).val = (i a).val) :
    iblk m c w t y = (cfg0.win w).arr.view.read (Elt Ideal) (V m c (Pipeline.arrRef spec0 w)) i :=
  blk_at m c t w y i fun a =>
    (congrArg (· + (y a).val) (offset_zero w h2 h22 t a)).trans ((Nat.zero_add _).trans (h a))

/-- Block `t` of the cards: the eight cards of each of its sixteen hands. -/
theorem blk_0 (x : Fin 128) (y : Fin 3) (h : t.val * 128 + x.val < 8192) :
    iblk m c 0 t (ix2 x y) = V m c main_v4 (ix2 (⟨t.val * 128 + x.val, h⟩ : Fin 8192) y) :=
  blk_at m c t 0 (ix2 x y) (ix2 (⟨t.val * 128 + x.val, h⟩ : Fin 8192) y)
    (Fin.forall_fin_two.2 ⟨congrArg (· + x.val) (offset_moving t).1.1,
      (congrArg (· + y.val) (offset_moving t).1.2).trans (Nat.zero_add _)⟩)

/-- Block `t` of the features: those of its sixteen hands. -/
theorem blk_1 (x : Fin 16) (y : Fin 128) (h : t.val * 16 + x.val < 1024) :
    iblk m c 1 t (ix2 x y) = V m c main_v69 (ix2 (⟨t.val * 16 + x.val, h⟩ : Fin 1024) y) :=
  blk_at m c t 1 (ix2 x y) (ix2 (⟨t.val * 16 + x.val, h⟩ : Fin 1024) y)
    (Fin.forall_fin_two.2 ⟨congrArg (· + x.val) (offset_moving t).2.1,
      (congrArg (· + y.val) (offset_moving t).2.2).trans (Nat.zero_add _)⟩)

/-- Window 2: the masks on a block diagonal. -/
theorem blk_2 : iblk m c 2 t = V m c main_v84 :=
  funext fun y => blk_whole m c t 2 (by decide) (by decide) y y fun _ => rfl

/-- Window 3: which hand of the block a row is of. -/
theorem blk_3 : iblk m c 3 t = V m c main_v90 :=
  funext fun y => blk_whole m c t 3 (by decide) (by decide) y y fun _ => rfl

/-- Window 4: the plays' sizes. -/
theorem blk_4 : iblk m c 4 t = V m c main_v94 :=
  funext fun y => blk_whole m c t 4 (by decide) (by decide) y y fun _ => rfl

/-- Window 5: what each flag needs. -/
theorem blk_5 : iblk m c 5 t = V m c main_v97 :=
  funext fun y => blk_whole m c t 5 (by decide) (by decide) y y fun _ => rfl

/-- Window 6: the straights. -/
theorem blk_6 : iblk m c 6 t = V m c main_cst_2 :=
  funext fun y => blk_whole m c t 6 (by decide) (by decide) y y fun _ => rfl

/-- Window 7: the segments of lanes. -/
theorem blk_7 : iblk m c 7 t = V m c main_cst_3 :=
  funext fun y => blk_whole m c t 7 (by decide) (by decide) y y fun _ => rfl

/-- Window 8: the segments' lengths. -/
theorem blk_8 : iblk m c 8 t = V m c main_cst_4 :=
  funext fun y => blk_whole m c t 8 (by decide) (by decide) y y fun _ => rfl

/-- Window 9: the lanes taken as they are. -/
theorem blk_9 : iblk m c 9 t = V m c main_cst_5 :=
  funext fun y => blk_whole m c t 9 (by decide) (by decide) y y fun _ => rfl

/-- Window 10: the thresholds. -/
theorem blk_10 : iblk m c 10 t = V m c main_cst_6 :=
  funext fun y => blk_whole m c t 10 (by decide) (by decide) y y fun _ => rfl

/-- Window 11: the flags as sums of thresholds. -/
theorem blk_11 : iblk m c 11 t = V m c main_cst_7 :=
  funext fun y => blk_whole m c t 11 (by decide) (by decide) y y fun _ => rfl

/-- Window 12: the first layers' weights of the features. -/
theorem blk_12 : iblk m c 12 t = V m c main_v32 :=
  funext fun y => blk_whole m c t 12 (by decide) (by decide) y y fun _ => rfl

/-- Window 13: the first layers' biases. -/
theorem blk_13 : iblk m c 13 t = V m c main_v36 :=
  funext fun y => blk_whole m c t 13 (by decide) (by decide) y y fun _ => rfl

/-- Window 14: the first layers' weights of the cards. -/
theorem blk_14 : iblk m c 14 t = V m c main_v26 :=
  funext fun y => blk_whole m c t 14 (by decide) (by decide) y y fun _ => rfl

/-- Window 15: the second layers' weights. -/
theorem blk_15 : iblk m c 15 t = V m c main_v48 :=
  funext fun y => blk_whole m c t 15 (by decide) (by decide) y y fun _ => rfl

/-- Window 16: the second layers' biases. -/
theorem blk_16 : iblk m c 16 t = V m c main_v52 :=
  funext fun y => blk_whole m c t 16 (by decide) (by decide) y y fun _ => rfl

/-- Window 17: the third layer's weights with the auxiliary output's. -/
theorem blk_17 : iblk m c 17 t = V m c main_v64 :=
  funext fun y => blk_whole m c t 17 (by decide) (by decide) y y fun _ => rfl

/-- Window 18: the third layer's bias. -/
theorem blk_18 : iblk m c 18 t = V m c main_v100 :=
  funext fun y => blk_whole m c t 18 (by decide) (by decide) y y fun _ => rfl

/-- Window 19: the auxiliary output's bias. -/
theorem blk_19 : iblk m c 19 t = V m c main_v101 :=
  funext fun y => blk_whole m c t 19 (by decide) (by decide) y y fun _ => rfl

/-- Window 20: the last layer's weights. -/
theorem blk_20 : iblk m c 20 t = V m c main_v68 :=
  funext fun y => blk_whole m c t 20 (by decide) (by decide) y y fun _ => rfl

/-- Window 21: the last layer's bias. -/
theorem blk_21 : iblk m c 21 t = V m c main_v102 :=
  funext fun y => blk_whole m c t 21 (by decide) (by decide) y y fun _ => rfl

end Cert.KerBlk

end
-- ==== Proof.Model.lean ====
module

public import Idealize.ShloMosaic.PureOps.Ideal
public import Idealize.ShloMosaic.PureOps.Ideal.Laws

@[expose] public section

/-! What the two programs compute for one hand and one play: the metadata as natural numbers, then the
    network over the extended reals. -/

noncomputable section

namespace Cert.Model

open Idealize.ShloMosaic

/-! ## Metadata of the cards that a play takes (`w h = 1`) or leaves -/

/-- How many of the cards `h` with `w h = 1` have class `c`; class 0 stands for no class. -/
def cnt (n : ℕ) (w : Fin 8 → ℕ) (x : Fin 8 → BitVec 32) (c : Fin n) : ℕ :=
  if c.val = 0 then 0 else ∑ h, (if x h = BitVec.ofNat 32 c.val then 1 else 0) * w h

/-- The ten straights: row `s` marks its five ranks. -/
def straight (s : Fin 10) (c : Fin 14) : ℕ :=
  if s.val = 9 then (if (1 ≤ c.val ∧ c.val ≤ 4) ∨ c.val = 13 then 1 else 0)
  else if s.val + 1 ≤ c.val ∧ c.val ≤ s.val + 5 then 1 else 0

/-- The cards on the ranks of straight `s`. -/
def hits (w : Fin 8 → ℕ) (r : Fin 8 → BitVec 32) (s : Fin 10) : ℕ := ∑ c, cnt 14 w r c * straight s c

/-- How many cards are taken. -/
def size (w : Fin 8 → ℕ) : ℕ := ∑ h, w h

/-- The greatest count of one rank. -/
def maxRank (w : Fin 8 → ℕ) (r : Fin 8 → BitVec 32) : ℕ := Finset.univ.sup (cnt 14 w r)

/-- The greatest count of one suit, wild cards (class 5) added. -/
def maxSuit (w : Fin 8 → ℕ) (s : Fin 8 → BitVec 32) : ℕ := Finset.univ.sup (cnt 6 w s) + cnt 6 w s 5

/-- How many ranks occur at least `k` times. -/
def atLeast (w : Fin 8 → ℕ) (r : Fin 8 → BitVec 32) (k : ℕ) : ℕ := ∑ c, if k ≤ cnt 14 w r c then 1 else 0

/-- The greatest number of cards on one straight. -/
def maxHits (w : Fin 8 → ℕ) (r : Fin 8 → BitVec 32) : ℕ := Finset.univ.sup (hits w r)

/-- The eight flags: pair, three, four, full house, two pair, straight, flush, straight flush. -/
def flag (w : Fin 8 → ℕ) (r s : Fin 8 → BitVec 32) (j : Fin 8) : Bool :=
  match j with
  | 0 => decide (2 ≤ size w) && decide (2 ≤ maxRank w r)
  | 1 => decide (3 ≤ size w) && decide (3 ≤ maxRank w r)
  | 2 => decide (4 ≤ size w) && decide (4 ≤ maxRank w r)
  | 3 => ((decide (5 ≤ size w) && (decide (3 ≤ size w) && decide (3 ≤ maxRank w r)))
      && !(decide (4 ≤ size w) && decide (4 ≤ maxRank w r))) && decide (atLeast w r 1 = 2)
  | 4 => decide (4 ≤ size w) && decide (atLeast w r 2 = 2)
  | 5 => (decide (5 ≤ size w) && decide (maxHits w r = 5)) && decide (5 ≤ atLeast w r 1)
  | 6 => decide (5 ≤ size w) && decide (5 ≤ maxSuit w s)
  | 7 => ((decide (5 ≤ size w) && decide (maxHits w r = 5)) && decide (5 ≤ atLeast w r 1))
      && (decide (5 ≤ size w) && decide (5 ≤ maxSuit w s))

/-- The five further numbers. -/
def extra (w : Fin 8 → ℕ) (r s : Fin 8 → BitVec 32) (j : Fin 5) : ℕ :=
  match j with
  | 0 => maxRank w r
  | 1 => maxSuit w s
  | 2 => atLeast w r 1
  | 3 => maxHits w r
  | 4 => size w

/-- The metadata's 33 entries: flags, further numbers, counts of the ranks, counts of the suits. -/
def md (w : Fin 8 → ℕ) (r s : Fin 8 → BitVec 32) (j : Fin 33) : ℕ :=
  if h : j.val < 8 then (flag w r s ⟨j.val, h⟩).toNat
  else if h : j.val < 13 then extra w r s ⟨j.val - 8, by omega⟩
  else if h : j.val < 27 then cnt 14 w r ⟨j.val - 13, by omega⟩
  else cnt 6 w s ⟨j.val - 27, by omega⟩

/-- The cards that a play leaves. -/
def rest (w : Fin 8 → ℕ) : Fin 8 → ℕ := fun h => 1 - w h

/-- The taken cards with no rank, no suit and no enhancement. -/
def invalid (w : Fin 8 → ℕ) (r s e : Fin 8 → BitVec 32) : ℕ :=
  ∑ h, (if r h = 0#32 ∧ s h = 0#32 ∧ e h = 0#32 then 1 else 0) * w h

/-! ## The network -/

/-- The float constant 1/2. -/
abbrev half : EReal := Ideal.ofBits .f32 0x3F000000#32
/-- The float constant nearest to 1/√2. -/
abbrev c2 : EReal := Ideal.ofBits .f32 0x3F3504F3#32
/-- The score of a play that is not valid. -/
abbrev low : EReal := Ideal.ofBits .f32 0xCE6E6B28#32

/-- The activation. -/
def gelu (x : EReal) : EReal := half * x * Ideal.erfc (-x * c2)

/-- One dense layer. -/
def dense {K N : ℕ} (x : Fin K → EReal) (W : Fin K → Fin N → EReal) (b : Fin N → EReal) (j : Fin N) : EReal :=
  (∑ k, x k * W k j) + b j

/-- The input row of the network: the hand's features, then both halves' metadata. -/
def row (flat : Fin 128 → EReal) (w : Fin 8 → ℕ) (r s : Fin 8 → BitVec 32) (k : Fin 194) : EReal :=
  if h : k.val < 128 then flat ⟨k.val, h⟩
  else if h : k.val < 161 then (md w r s ⟨k.val - 128, by omega⟩ : EReal)
  else (md (rest w) r s ⟨k.val - 161, by omega⟩ : EReal)

/-- The logit of a valid play. -/
def logit (X : Fin 194 → EReal) (W0 : Fin 194 → Fin 256 → EReal) (b0 : Fin 256 → EReal)
    (W1 : Fin 256 → Fin 128 → EReal) (b1 : Fin 128 → EReal) (W2 : Fin 128 → Fin 64 → EReal) (b2 : Fin 64 → EReal)
    (W3 : Fin 64 → Fin 1 → EReal) (b3 : Fin 1 → EReal) : EReal :=
  dense (fun k => gelu (dense (fun k => gelu (dense (fun k => gelu (dense X W0 b0 k)) W1 b1 k)) W2 b2 k)) W3 b3 0

/-- The auxiliary value of a valid play. -/
def aux (X : Fin 194 → EReal) (W0 : Fin 194 → Fin 256 → EReal) (b0 : Fin 256 → EReal)
    (W1 : Fin 256 → Fin 128 → EReal) (b1 : Fin 128 → EReal) (W2 : Fin 128 → Fin 1 → EReal) (b2 : Fin 1 → EReal) :
    EReal :=
  dense (fun k => gelu (dense (fun k => gelu (dense X W0 b0 k)) W1 b1 k)) W2 b2 0

end Cert.Model

end
-- ==== Proof.Cast.lean ====
module

public import proofs.«01_k».proof.Proof.Model
public import Idealize.ShloMosaic.Lib.IndicatorCount
public import Idealize.ShloMosaic.Lib.Pointwise

@[expose] public section

/-! Natural numbers inside the extended reals: the constants of the programs, bits read as numbers, greatest values and
    counts. -/

noncomputable section

namespace Cert.Cast

open Idealize.ShloMosaic

/-! ## Constants -/

/-- The start of a greatest value is below everything. -/
theorem bits_bot : Ideal.ofBits .f32 0xFF800000#32 = ⊥ := by simp [Ideal.ofBits, Ideal.ieee]
/-- The f32 pattern of 2. -/
theorem bits_two : Ideal.ofBits .f32 0x40000000#32 = ((2 : ℕ) : EReal) := by
  simp [Ideal.ofBits, Ideal.ieee, -EReal.coe_mul]; norm_num; rfl
/-- The f32 pattern of 3. -/
theorem bits_three : Ideal.ofBits .f32 0x40400000#32 = ((3 : ℕ) : EReal) := by
  simp [Ideal.ofBits, Ideal.ieee, -EReal.coe_mul]; norm_num; rfl
/-- The f32 pattern of 4. -/
theorem bits_four : Ideal.ofBits .f32 0x40800000#32 = ((4 : ℕ) : EReal) := by
  simp [Ideal.ofBits, Ideal.ieee, -EReal.coe_mul]; norm_num; rfl
/-- The f32 pattern of 5. -/
theorem bits_five : Ideal.ofBits .f32 0x40A00000#32 = ((5 : ℕ) : EReal) := by
  simp [Ideal.ofBits, Ideal.ieee, -EReal.coe_mul]; norm_num; rfl
/-- The f32 pattern of 1/4. -/
theorem bits_quarter : Ideal.ofBits .f32 0x3E800000#32 = ((1 / 4 : ℝ) : EReal) := by
  simp [Ideal.ofBits, Ideal.ieee, -EReal.coe_mul]; norm_num
/-- The f32 pattern of 1/2. -/
theorem bits_half : Model.half = ((1 / 2 : ℝ) : EReal) := by
  simp [Model.half, Ideal.ofBits, Ideal.ieee, -EReal.coe_mul]; norm_num
/-- The f32 pattern nearest to 1/√2. -/
theorem bits_c2 : Model.c2 = ((11863283 / 16777216 : ℝ) : EReal) := by
  simp [Model.c2, Ideal.ofBits, Ideal.ieee, -EReal.coe_mul]; norm_num
/-- The f32 pattern of the kernel's nudge before the floor. -/
theorem bits_nudge : Ideal.ofBits .f32 0x3CF5C28F#32 = ((16106127 / 536870912 : ℝ) : EReal) := by
  simp [Ideal.ofBits, Ideal.ieee, -EReal.coe_mul]; norm_num

/-! ## Bits as numbers -/

/-- A bit read as a number. -/
theorem uitofp_bool (p : Bool) : FloatOps.uitofp (F := Ideal) .f32 (BitVec.ofBool p) = ((p.toNat : ℕ) : EReal) := by
  cases p <;> simp [FloatOps.uitofp]

/-- A bit widened to a word, read as a number. -/
theorem sitofp_bool (p : Bool) :
    FloatOps.sitofp (F := Ideal) .f32 (BitVec.setWidth 32 (BitVec.ofBool p)) = ((p.toNat : ℕ) : EReal) := by
  cases p <;> simp [FloatOps.sitofp]

/-- Equality of words as a bit. -/
theorem cmpi_eq {w : ℕ} (x y : BitVec w) : IntOp.cmpi .eq x y = BitVec.ofBool (decide (x = y)) := by
  simp [IntOp.cmpi, Bool.beq_eq_decide_eq]

/-- Inequality of words as a bit. -/
theorem cmpi_ne {w : ℕ} (x y : BitVec w) : IntOp.cmpi .ne x y = BitVec.ofBool (decide (x ≠ y)) := by
  simp [IntOp.cmpi, bne, Bool.beq_eq_decide_eq]

/-- The conjunction of two bits. -/
theorem andi_bool (p q : Bool) : IntOp.andi (BitVec.ofBool p) (BitVec.ofBool q) = BitVec.ofBool (p && q) := by
  cases p <;> cases q <;> rfl

/-- The negation of a bit. -/
theorem not_bool (p : Bool) : ~~~(BitVec.ofBool p) = BitVec.ofBool (!p) := by cases p <;> rfl

/-- A choice by a bit. -/
theorem select_bool {α : Type} (p : Bool) (x y : α) : Scalar.select (BitVec.ofBool p) x y = if p then x else y := by
  cases p <;> simp [Scalar.select]

/-! ## Comparisons, sums, greatest values, counts -/

/-- Casts of equal numbers. -/
theorem cast_eq (a b : ℕ) : ((a : EReal) = (b : EReal)) ↔ a = b := by
  constructor
  · intro h; exact le_antisymm (EReal.natCast_le_iff.1 h.le) (EReal.natCast_le_iff.1 h.ge)
  · intro h; rw [h]

/-- Comparison of casts. -/
theorem cast_le (a b : ℕ) : ((a : EReal) ≤ (b : EReal)) ↔ a ≤ b := EReal.natCast_le_iff

/-- A cast above zero. -/
theorem cast_pos (a : ℕ) : (0 < (a : EReal)) ↔ 1 ≤ a := by
  rw [show (0 : EReal) = ((0 : ℕ) : EReal) by simp, EReal.natCast_lt_iff]; omega

/-- A sum of casts. -/
theorem cast_sum {ι : Type} (s : Finset ι) (f : ι → ℕ) : (∑ i ∈ s, ((f i : ℕ) : EReal)) = ((∑ i ∈ s, f i : ℕ) : EReal) := by
  classical
  induction s using Finset.induction_on with
  | empty => simp
  | insert a s h ih => rw [Finset.sum_insert h, Finset.sum_insert h, ih, Nat.cast_add]

/-- A sum of products of casts. -/
theorem cast_dot {ι : Type} (s : Finset ι) (f g : ι → ℕ) :
    (∑ i ∈ s, ((f i : ℕ) : EReal) * ((g i : ℕ) : EReal)) = ((∑ i ∈ s, f i * g i : ℕ) : EReal) := by
  rw [← cast_sum]; exact Finset.sum_congr rfl fun i _ => by rw [EReal.natCast_mul]

/-- The greatest of casts, started below everything. -/
theorem fold_max {n : ℕ} (hn : 0 < n) (f : Fin n → ℕ) (b : EReal) (hb : b = ⊥) :
    Finset.univ.fold max b (fun x => ((f x : ℕ) : EReal)) = ((Finset.univ.sup f : ℕ) : EReal) := by
  subst hb
  show Finset.univ.sup (fun x => ((f x : ℕ) : EReal)) = _
  haveI : Nonempty (Fin n) := ⟨⟨0, hn⟩⟩
  refine le_antisymm (Finset.sup_le fun i _ => EReal.natCast_le_iff.2 (Finset.le_sup (Finset.mem_univ i))) ?_
  obtain ⟨i, -, hi⟩ := Finset.exists_mem_eq_sup Finset.univ Finset.univ_nonempty f
  rw [hi]
  exact Finset.le_sup (f := fun x => ((f x : ℕ) : EReal)) (Finset.mem_univ i)

/-- A count by additions of words. -/
theorem fold_count {n : ℕ} (p : Fin n → Bool) :
    Finset.univ.fold IntOp.addi (0#32) (fun x => BitVec.setWidth 32 (BitVec.ofBool (p x)))
      = BitVec.ofNat 32 (∑ x, if p x then 1 else 0) := by
  rw [IndicatorCount.fold_addi_setWidth_eq_card, Finset.card_filter]
  congr 1
  refine Finset.sum_congr rfl fun x _ => ?_
  cases p x <;> simp

/-- A small word read as a number. -/
theorem sitofp_word (a : ℕ) (h : a < 2 ^ 31) : FloatOps.sitofp (F := Ideal) .f32 (BitVec.ofNat 32 a) = (a : EReal) := by
  show (((BitVec.ofNat 32 a).toInt : ℝ) : EReal) = _
  have e : (BitVec.ofNat 32 a).toNat = a := by rw [BitVec.toNat_ofNat]; omega
  rw [BitVec.toInt_eq_toNat_of_lt (by omega), e]
  simp

end Cert.Cast

end
-- ==== Proof.Lanes.lean ====
module

public import proofs.«01_k».proof.Proof.Model

@[expose] public section

/-! The kernel's lanes of counts, as natural numbers: what each lane holds, and the greatest values and sums over ranges of
    lanes. -/

noncomputable section

namespace Cert.Lanes

open Idealize.ShloMosaic

/-! ## Ranges of a finite type -/

/-- The greatest value over a range of lanes. -/
theorem sup_range {N : ℕ} (a n : ℕ) (h : a + n ≤ N) (L : Fin N → ℕ) :
    (Finset.univ.filter fun l : Fin N => a ≤ l.val ∧ l.val < a + n).sup L
      = Finset.univ.sup fun i : Fin n => L ⟨a + i.val, by omega⟩ := by
  refine le_antisymm (Finset.sup_le fun l hl => ?_) (Finset.sup_le fun i _ => ?_)
  · obtain ⟨-, h1, h2⟩ := Finset.mem_filter.1 hl
    have e : l = ⟨a + (⟨l.val - a, by omega⟩ : Fin n).val, by simp; omega⟩ := Fin.ext (by simp; omega)
    rw [e]
    exact Finset.le_sup (f := fun i : Fin n => L ⟨a + i.val, by omega⟩) (Finset.mem_univ _)
  · exact Finset.le_sup (f := L) (Finset.mem_filter.2 ⟨Finset.mem_univ _, by simp, by simp⟩)

/-- A sum over a range of lanes. -/
theorem sum_range {N : ℕ} {M : Type} [AddCommMonoid M] (a n : ℕ) (h : a + n ≤ N) (q : Fin N → M) :
    (∑ l : Fin N, if a ≤ l.val ∧ l.val < a + n then q l else 0) = ∑ i : Fin n, q ⟨a + i.val, by omega⟩ := by
  rw [← Finset.sum_filter]
  symm
  refine Finset.sum_bij (fun i _ => (⟨a + i.val, by omega⟩ : Fin N)) (fun i _ => ?_) (fun i _ j _ e => ?_) (fun l hl => ?_)
    (fun i _ => rfl)
  · exact Finset.mem_filter.2 ⟨Finset.mem_univ _, by simp, by simp⟩
  · exact Fin.ext (by have := congrArg Fin.val e; simp at this; omega)
  · obtain ⟨-, h1, h2⟩ := Finset.mem_filter.1 hl
    exact ⟨⟨l.val - a, by omega⟩, Finset.mem_univ _, Fin.ext (by simp; omega)⟩

/-- A sum over 16 blocks of eight in which only block `b` counts. -/
theorem sum_block {M : Type} [AddCommMonoid M] (b : Fin 16) (g : Fin 128 → M) :
    (∑ x : Fin 128, if x.val / 8 = b.val then g x else 0) = ∑ h : Fin 8, g ⟨b.val * 8 + h.val, by omega⟩ := by
  rw [← sum_range (b.val * 8) 8 (by omega) g]
  refine Finset.sum_congr rfl fun x _ => ?_
  congr 1
  apply propext
  constructor <;> intro h <;> omega

/-! ## The lanes -/

/-- Straights, and six rows of zeros. -/
def straight16 (s : Fin 16) (c : Fin 14) : ℕ := if h : s.val < 10 then Model.straight ⟨s.val, h⟩ c else 0

/-- Whether a card is of class `c`; class 0 stands for no class. -/
def oh (n : ℕ) (x : BitVec 32) (c : Fin n) : ℕ := if x = BitVec.ofNat 32 c.val ∧ c.val ≠ 0 then 1 else 0

/-- Whether a card lies on straight `s`. -/
def on (x : BitVec 32) (s : Fin 16) : ℕ := ∑ c, oh 14 x c * straight16 s c

/-- A card's lanes when it is taken. -/
def rowIn (r s e : BitVec 32) (l : Fin 128) : ℕ :=
  if h : l.val < 14 then oh 14 r ⟨l.val, h⟩
  else if h : l.val - 14 < 6 then oh 6 s ⟨l.val - 14, h⟩
  else if l.val - 14 - 6 < 20 then 0
  else if h : l.val - 14 - 6 - 20 < 16 then on r ⟨l.val - 14 - 6 - 20, h⟩
  else if l.val - 14 - 6 - 20 - 16 < 16 then 0
  else if l.val - 14 - 6 - 20 - 16 - 16 < 1 then (if r = 0#32 ∧ s = 0#32 ∧ e = 0#32 then 1 else 0)
  else 0

/-- A card's lanes when it is left. -/
def rowOut (r s : BitVec 32) (l : Fin 128) : ℕ :=
  if l.val < 20 then 0
  else if h : l.val - 20 < 14 then oh 14 r ⟨l.val - 20, h⟩
  else if h : l.val - 20 - 14 < 6 then oh 6 s ⟨l.val - 20 - 14, h⟩
  else if l.val - 20 - 14 - 6 < 16 then 0
  else if h : l.val - 20 - 14 - 6 - 16 < 16 then on r ⟨l.val - 20 - 14 - 6 - 16, h⟩
  else 0

section
variable (w : Fin 8 → ℕ) (r s e : Fin 8 → BitVec 32)

/-- What each lane holds after the cards are summed. -/
def lane (l : Fin 128) : ℕ :=
  ∑ h, w h * rowIn (r h) (s h) (e h) l + ∑ h, Model.rest w h * rowOut (r h) (s h) l

/-- The cards on straight `s`. -/
def hits16 (s : Fin 16) : ℕ := if h : s.val < 10 then Model.hits w r ⟨s.val, h⟩ else 0

/-- A class count is the sum of the cards' marks. -/
theorem sum_oh (n : ℕ) (x : Fin 8 → BitVec 32) (c : Fin n) : ∑ h, w h * oh n (x h) c = Model.cnt n w x c := by
  unfold Model.cnt oh
  by_cases h0 : c.val = 0
  · simp [h0]
  · rw [if_neg h0]
    refine Finset.sum_congr rfl fun h _ => ?_
    by_cases e : x h = BitVec.ofNat 32 c.val <;> simp [e, h0]

/-- The cards on a straight are the sum of the cards' marks. -/
theorem sum_on (t : Fin 16) : ∑ h, w h * on (r h) t = hits16 w r t := by
  unfold hits16 on straight16
  by_cases ht : t.val < 10
  · simp only [dif_pos ht]
    unfold Model.hits
    simp only [Finset.mul_sum, ← mul_assoc]
    rw [Finset.sum_comm]
    refine Finset.sum_congr rfl fun c _ => ?_
    rw [← Finset.sum_mul, sum_oh]
  · simp [dif_neg ht]

theorem lane_rank (i : Fin 14) : lane w r s e ⟨0 + i.val, by omega⟩ = Model.cnt 14 w r i := by
  have h1 := i.isLt
  have h2 : (0 + i.val) < 14 := by omega
  have h3 : (0 + i.val) < 20 := by omega
  simp only [lane, rowIn, rowOut, dif_pos h2, if_pos h3, mul_zero, Finset.sum_const_zero, add_zero]
  simpa using sum_oh w 14 r i

theorem lane_suit (i : Fin 6) : lane w r s e ⟨14 + i.val, by omega⟩ = Model.cnt 6 w s i := by
  have h1 := i.isLt
  have h2 : ¬(14 + i.val) < 14 := by omega
  have h3 : (14 + i.val) - 14 < 6 := by omega
  have h4 : (14 + i.val) < 20 := by omega
  simp only [lane, rowIn, rowOut, dif_neg h2, dif_pos h3, if_pos h4, mul_zero, Finset.sum_const_zero, add_zero]
  simpa using sum_oh w 6 s i

theorem lane_rank' (i : Fin 14) : lane w r s e ⟨20 + i.val, by omega⟩ = Model.cnt 14 (Model.rest w) r i := by
  have h1 := i.isLt
  have h2 : ¬(20 + i.val) < 14 := by omega
  have h3 : ¬(20 + i.val) - 14 < 6 := by omega
  have h4 : (20 + i.val) - 14 - 6 < 20 := by omega
  have h5 : ¬(20 + i.val) < 20 := by omega
  have h6 : (20 + i.val) - 20 < 14 := by omega
  simp only [lane, rowIn, rowOut, dif_neg h2, dif_neg h3, if_pos h4, if_neg h5, dif_pos h6, mul_zero, Finset.sum_const_zero, zero_add]
  simpa using sum_oh (Model.rest w) 14 r i

theorem lane_suit' (i : Fin 6) : lane w r s e ⟨34 + i.val, by omega⟩ = Model.cnt 6 (Model.rest w) s i := by
  have h1 := i.isLt
  have h2 : ¬(34 + i.val) < 14 := by omega
  have h3 : ¬(34 + i.val) - 14 < 6 := by omega
  have h4 : (34 + i.val) - 14 - 6 < 20 := by omega
  have h5 : ¬(34 + i.val) < 20 := by omega
  have h6 : ¬(34 + i.val) - 20 < 14 := by omega
  have h7 : (34 + i.val) - 20 - 14 < 6 := by omega
  have h8 : (⟨34 + i.val - 20 - 14, h7⟩ : Fin 6) = i := Fin.ext (by simp; omega)
  simp only [lane, rowIn, rowOut, dif_neg h2, dif_neg h3, if_pos h4, if_neg h5, dif_neg h6, dif_pos h7, mul_zero, Finset.sum_const_zero, zero_add, h8]
  exact sum_oh (Model.rest w) 6 s i

theorem lane_hits (i : Fin 16) : lane w r s e ⟨40 + i.val, by omega⟩ = hits16 w r i := by
  have h1 := i.isLt
  have h2 : ¬(40 + i.val) < 14 := by omega
  have h3 : ¬(40 + i.val) - 14 < 6 := by omega
  have h4 : ¬(40 + i.val) - 14 - 6 < 20 := by omega
  have h4' : (40 + i.val) - 14 - 6 - 20 < 16 := by omega
  have h5 : ¬(40 + i.val) < 20 := by omega
  have h6 : ¬(40 + i.val) - 20 < 14 := by omega
  have h7 : ¬(40 + i.val) - 20 - 14 < 6 := by omega
  have h8 : (40 + i.val) - 20 - 14 - 6 < 16 := by omega
  have h9 : (⟨40 + i.val - 14 - 6 - 20, h4'⟩ : Fin 16) = i := Fin.ext (by simp; omega)
  simp only [lane, rowIn, rowOut, dif_neg h2, dif_neg h3, if_neg h4, dif_pos h4', if_neg h5, dif_neg h6, dif_neg h7, if_pos h8, mul_zero, Finset.sum_const_zero, add_zero, h9]
  exact sum_on w r i

theorem lane_hits' (i : Fin 16) : lane w r s e ⟨56 + i.val, by omega⟩ = hits16 (Model.rest w) r i := by
  have h1 := i.isLt
  have h2 : ¬(56 + i.val) < 14 := by omega
  have h3 : ¬(56 + i.val) - 14 < 6 := by omega
  have h4 : ¬(56 + i.val) - 14 - 6 < 20 := by omega
  have h4' : ¬(56 + i.val) - 14 - 6 - 20 < 16 := by omega
  have h4'' : (56 + i.val) - 14 - 6 - 20 - 16 < 16 := by omega
  have h5 : ¬(56 + i.val) < 20 := by omega
  have h6 : ¬(56 + i.val) - 20 < 14 := by omega
  have h7 : ¬(56 + i.val) - 20 - 14 < 6 := by omega
  have h8 : ¬(56 + i.val) - 20 - 14 - 6 < 16 := by omega
  have h8' : (56 + i.val) - 20 - 14 - 6 - 16 < 16 := by omega
  have h9 : (⟨56 + i.val - 20 - 14 - 6 - 16, h8'⟩ : Fin 16) = i := Fin.ext (by simp; omega)
  simp only [lane, rowIn, rowOut, dif_neg h2, dif_neg h3, if_neg h4, dif_neg h4', if_pos h4'', if_neg h5, dif_neg h6, dif_neg h7, if_neg h8, dif_pos h8', mul_zero, Finset.sum_const_zero, zero_add, h9]
  exact sum_on (Model.rest w) r i

theorem lane_invalid : lane w r s e 72 = Model.invalid w r s e := by
  unfold lane Model.invalid
  have h1 : ∀ h, rowIn (r h) (s h) (e h) 72 = if r h = 0#32 ∧ s h = 0#32 ∧ e h = 0#32 then 1 else 0 := fun h => rfl
  have h2 : ∀ h, rowOut (r h) (s h) 72 = 0 := fun h => rfl
  simp only [h1, h2, mul_zero, Finset.sum_const_zero, add_zero]
  exact Finset.sum_congr rfl fun h _ => mul_comm _ _

/-! ## Greatest values and sums over ranges -/

/-- The lanes, then which lanes count anything, then which count two or more. -/
def wide (l : Fin 384) : ℕ :=
  if h : l.val < 128 then lane w r s e ⟨l.val, h⟩
  else if h : l.val - 128 < 128 then (if 1 ≤ lane w r s e ⟨l.val - 128, h⟩ then 1 else 0)
  else (if 2 ≤ lane w r s e ⟨l.val - 128 - 128, by omega⟩ then 1 else 0)

/-- The greatest value over one range of lanes plus the sum over another. -/
def P (lo n lo' n' : ℕ) : ℕ :=
  (Finset.univ.filter fun l : Fin 128 => lo ≤ l.val ∧ l.val < lo + n).sup (lane w r s e)
    + ∑ l : Fin 384, if lo' ≤ l.val ∧ l.val < lo' + n' then wide w r s e l else 0

theorem sup_hits : Finset.univ.sup (hits16 w r) = Model.maxHits w r := by
  unfold Model.maxHits
  refine le_antisymm (Finset.sup_le fun i _ => ?_) (Finset.sup_le fun i _ => ?_)
  · unfold hits16
    split
    · exact Finset.le_sup (f := Model.hits w r) (Finset.mem_univ _)
    · exact Nat.zero_le _
  · have e : Model.hits w r i = hits16 w r ⟨i.val, by omega⟩ := by unfold hits16; rw [dif_pos i.isLt]
    rw [e]; exact Finset.le_sup (f := hits16 w r) (Finset.mem_univ _)

theorem P_zero : P w r s e 0 0 0 0 = 0 := by
  unfold P
  rw [sup_range 0 0 (by omega), sum_range 0 0 (by omega)]
  simp

theorem P_rank : P w r s e 0 14 0 0 = Model.maxRank w r := by
  unfold P
  rw [sup_range 0 14 (by omega), sum_range 0 0 (by omega)]
  simp only [lane_rank]
  simp [Model.maxRank]

theorem P_rank' : P w r s e 20 14 0 0 = Model.maxRank (Model.rest w) r := by
  unfold P
  rw [sup_range 20 14 (by omega), sum_range 0 0 (by omega)]
  simp only [lane_rank']
  simp [Model.maxRank]

theorem P_suit : P w r s e 14 6 19 1 = Model.maxSuit w s := by
  unfold P
  rw [sup_range 14 6 (by omega), sum_range 19 1 (by omega)]
  simp only [lane_suit, Fin.sum_univ_one]
  have e1 : wide w r s e ⟨19 + (0 : Fin 1).val, by omega⟩ = Model.cnt 6 w s 5 := lane_suit w r s e 5
  rw [e1, Model.maxSuit]

theorem P_suit' : P w r s e 34 6 39 1 = Model.maxSuit (Model.rest w) s := by
  unfold P
  rw [sup_range 34 6 (by omega), sum_range 39 1 (by omega)]
  simp only [lane_suit', Fin.sum_univ_one]
  have e1 : wide w r s e ⟨39 + (0 : Fin 1).val, by omega⟩ = Model.cnt 6 (Model.rest w) s 5 := lane_suit' w r s e 5
  rw [e1, Model.maxSuit]

theorem P_hits : P w r s e 40 16 0 0 = Model.maxHits w r := by
  unfold P
  rw [sup_range 40 16 (by omega), sum_range 0 0 (by omega)]
  simp only [lane_hits]
  simpa using sup_hits w r

theorem P_hits' : P w r s e 56 16 0 0 = Model.maxHits (Model.rest w) r := by
  unfold P
  rw [sup_range 56 16 (by omega), sum_range 0 0 (by omega)]
  simp only [lane_hits']
  simpa using sup_hits (Model.rest w) r

theorem wide_one (l : Fin 384) (k : Fin 128) (h : l.val = 128 + k.val) :
    wide w r s e l = if 1 ≤ lane w r s e k then 1 else 0 := by
  unfold wide
  rw [dif_neg (by omega), dif_pos (by omega)]
  have e1 : (⟨l.val - 128, by omega⟩ : Fin 128) = k := Fin.ext (by simp; omega)
  rw [e1]

theorem wide_two (l : Fin 384) (k : Fin 128) (h : l.val = 256 + k.val) :
    wide w r s e l = if 2 ≤ lane w r s e k then 1 else 0 := by
  unfold wide
  rw [dif_neg (by omega), dif_neg (by omega)]
  have e1 : (⟨l.val - 128 - 128, by omega⟩ : Fin 128) = k := Fin.ext (by simp; omega)
  rw [e1]

theorem P_one : P w r s e 0 0 128 14 = Model.atLeast w r 1 := by
  unfold P Model.atLeast
  rw [sup_range 0 0 (by omega), sum_range 128 14 (by omega), Finset.univ_eq_empty, Finset.sup_empty, bot_eq_zero, zero_add]
  exact Finset.sum_congr rfl fun i _ => by
    rw [wide_one w r s e _ ⟨0 + i.val, by omega⟩ (by simp), lane_rank]

theorem P_one' : P w r s e 0 0 148 14 = Model.atLeast (Model.rest w) r 1 := by
  unfold P Model.atLeast
  rw [sup_range 0 0 (by omega), sum_range 148 14 (by omega), Finset.univ_eq_empty, Finset.sup_empty, bot_eq_zero, zero_add]
  exact Finset.sum_congr rfl fun i _ => by
    rw [wide_one w r s e _ ⟨20 + i.val, by omega⟩ (by simp; omega), lane_rank']

theorem P_two : P w r s e 0 0 256 14 = Model.atLeast w r 2 := by
  unfold P Model.atLeast
  rw [sup_range 0 0 (by omega), sum_range 256 14 (by omega), Finset.univ_eq_empty, Finset.sup_empty, bot_eq_zero, zero_add]
  exact Finset.sum_congr rfl fun i _ => by
    rw [wide_two w r s e _ ⟨0 + i.val, by omega⟩ (by simp), lane_rank]

theorem P_two' : P w r s e 0 0 276 14 = Model.atLeast (Model.rest w) r 2 := by
  unfold P Model.atLeast
  rw [sup_range 0 0 (by omega), sum_range 276 14 (by omega), Finset.univ_eq_empty, Finset.sup_empty, bot_eq_zero, zero_add]
  exact Finset.sum_congr rfl fun i _ => by
    rw [wide_two w r s e _ ⟨20 + i.val, by omega⟩ (by simp; omega), lane_rank']

/-- In every range of the greatest value, at most 13 lanes count anything. -/
theorem card_nonzero (lo n : ℕ)
    (h : (lo = 0 ∧ n = 14) ∨ (lo = 20 ∧ n = 14) ∨ (lo = 14 ∧ n = 6) ∨ (lo = 34 ∧ n = 6) ∨ (lo = 40 ∧ n = 16)
      ∨ (lo = 56 ∧ n = 16) ∨ n = 0) :
    ((Finset.univ.filter fun l : Fin 128 => lo ≤ l.val ∧ l.val < lo + n).filter fun l => lane w r s e l ≠ 0).card ≤ 13 := by
  have key : ∀ a k : ℕ, a + k ≤ 128 → k ≤ 13 → (∀ l : Fin 128, lo ≤ l.val → l.val < lo + n → lane w r s e l ≠ 0 → a ≤ l.val ∧ l.val < a + k) →
      ((Finset.univ.filter fun l : Fin 128 => lo ≤ l.val ∧ l.val < lo + n).filter fun l => lane w r s e l ≠ 0).card ≤ 13 := by
    intro a k hak hk hs
    refine le_trans ?_ hk
    refine (Finset.card_le_card (t := Finset.univ.image fun i : Fin k => (⟨a + i.val, by omega⟩ : Fin 128)) fun l hl => ?_).trans
      (Finset.card_image_le.trans (by simp))
    obtain ⟨h1, h2⟩ := Finset.mem_filter.1 hl
    obtain ⟨-, h3, h4⟩ := Finset.mem_filter.1 h1
    obtain ⟨h5, h6⟩ := hs l h3 h4 h2
    exact Finset.mem_image.2 ⟨⟨l.val - a, by omega⟩, Finset.mem_univ _, Fin.ext (by simp; omega)⟩
  have zero : ∀ (w' : Fin 8 → ℕ) (c : Fin 14), c.val = 0 → Model.cnt 14 w' r c = 0 := fun w' c hc => by
    unfold Model.cnt; rw [if_pos hc]
  have zero' : ∀ (w' : Fin 8 → ℕ) (t : Fin 16), 10 ≤ t.val → hits16 w' r t = 0 := fun w' c hc => by
    unfold hits16; rw [dif_neg (by omega)]
  rcases h with ⟨rfl, rfl⟩ | ⟨rfl, rfl⟩ | ⟨rfl, rfl⟩ | ⟨rfl, rfl⟩ | ⟨rfl, rfl⟩ | ⟨rfl, rfl⟩ | rfl
  · refine key 1 13 (by omega) (by omega) fun l h1 h2 h3 => ⟨?_, by omega⟩
    by_contra h4
    have e1 : l = ⟨0 + (0 : Fin 14).val, by simp⟩ := Fin.ext (by simp; omega)
    exact h3 (by rw [e1, lane_rank]; exact zero _ _ rfl)
  · refine key 21 13 (by omega) (by omega) fun l h1 h2 h3 => ⟨?_, by omega⟩
    by_contra h4
    have e1 : l = ⟨20 + (0 : Fin 14).val, by simp⟩ := Fin.ext (by simp; omega)
    exact h3 (by rw [e1, lane_rank']; exact zero _ _ rfl)
  · exact key 14 6 (by omega) (by omega) fun l h1 h2 _ => ⟨h1, h2⟩
  · exact key 34 6 (by omega) (by omega) fun l h1 h2 _ => ⟨h1, h2⟩
  · refine key 40 10 (by omega) (by omega) fun l h1 h2 h3 => ⟨h1, ?_⟩
    by_contra h4
    have e1 : l = ⟨40 + (⟨l.val - 40, by omega⟩ : Fin 16).val, by simp; omega⟩ := Fin.ext (by simp; omega)
    exact h3 (by rw [e1, lane_hits]; exact zero' _ _ (by simp; omega))
  · refine key 56 10 (by omega) (by omega) fun l h1 h2 h3 => ⟨h1, ?_⟩
    by_contra h4
    have e1 : l = ⟨56 + (⟨l.val - 56, by omega⟩ : Fin 16).val, by simp; omega⟩ := Fin.ext (by simp; omega)
    exact h3 (by rw [e1, lane_hits']; exact zero' _ _ (by simp; omega))
  · exact key 0 0 (by omega) (by omega) fun l h1 h2 _ => ⟨by omega, by omega⟩

end

end Cert.Lanes

end
-- ==== Proof.Trick.lean ====
module

public import Mathlib.Analysis.SpecialFunctions.Log.Basic
public import Mathlib.Analysis.SpecialFunctions.Pow.Real
public import Mathlib.Algebra.Order.Floor.Ring

@[expose] public section

/-! A greatest count read off a sum of powers of sixteen. -/

namespace Cert.Trick

/-- Of the numbers `16 ^ n i - 1` at most thirteen differ from zero, so their sum lies between
    `16 ^ M - 1` and `13 * (16 ^ M - 1)`, where `M` is the greatest `n i`. -/
theorem sum_bounds {ι : Type*} [DecidableEq ι] (s : Finset ι) (n : ι → ℕ)
    (h13 : (s.filter fun i => n i ≠ 0).card ≤ 13) :
    (16 : ℝ) ^ s.sup n - 1 ≤ ∑ i ∈ s, ((16 : ℝ) ^ n i - 1)
      ∧ ∑ i ∈ s, ((16 : ℝ) ^ n i - 1) ≤ 13 * ((16 : ℝ) ^ s.sup n - 1) := by
  have hpos : ∀ k : ℕ, (0 : ℝ) ≤ (16 : ℝ) ^ k - 1 := fun k =>
    sub_nonneg.2 (one_le_pow₀ (by norm_num))
  constructor
  · rcases s.eq_empty_or_nonempty with rfl | hs
    · simp
    · obtain ⟨i, hi, hM⟩ := s.exists_mem_eq_sup hs n
      rw [hM]
      exact Finset.single_le_sum (f := fun i => (16 : ℝ) ^ n i - 1) (fun j _ => hpos (n j)) hi
  · have e : ∑ i ∈ s, ((16 : ℝ) ^ n i - 1) = ∑ i ∈ s.filter (fun i => n i ≠ 0), ((16 : ℝ) ^ n i - 1) := by
      rw [Finset.sum_filter]
      refine Finset.sum_congr rfl fun i _ => ?_
      split_ifs with h
      · rfl
      · have : n i = 0 := by simpa using h
        simp [this]
    rw [e]
    calc _ ≤ (s.filter fun i => n i ≠ 0).card • ((16 : ℝ) ^ s.sup n - 1) := by
            refine Finset.sum_le_card_nsmul _ _ _ fun i hi => ?_
            have := Finset.le_sup (f := n) (Finset.mem_of_mem_filter i hi)
            have := pow_le_pow_right₀ (by norm_num : (1 : ℝ) ≤ 16) this
            linarith
      _ ≤ _ := by
            rw [nsmul_eq_mul]
            refine mul_le_mul_of_nonneg_right ?_ (hpos _)
            exact_mod_cast h13

/-- The logarithm to the base sixteen of such a sum, shifted up a little and rounded down, is the
    greatest `n i`. -/
theorem floor_log {ι : Type*} [DecidableEq ι] (s : Finset ι) (n : ι → ℕ) (d : ℝ)
    (hd : 1 / 40 ≤ d) (hd' : d ≤ 1 / 16) (h13 : (s.filter fun i => n i ≠ 0).card ≤ 13) :
    ⌊Real.log (max (∑ i ∈ s, (16 : ℝ) ^ n i - s.card) 1) * (Real.log 2)⁻¹ * (1 / 4) + d⌋
      = ((s.sup n : ℕ) : ℤ) := by
  obtain ⟨lo, hi⟩ := sum_bounds s n h13
  have e : ∑ i ∈ s, (16 : ℝ) ^ n i - s.card = ∑ i ∈ s, ((16 : ℝ) ^ n i - 1) := by
    rw [Finset.sum_sub_distrib]; simp
  rw [e]
  set T := ∑ i ∈ s, ((16 : ℝ) ^ n i - 1)
  generalize s.sup n = M at lo hi ⊢
  have hl2 : 0 < Real.log 2 := Real.log_pos (by norm_num)
  rcases Nat.eq_zero_or_pos M with rfl | hM
  · have hT : T = 0 := by simp at lo hi; linarith
    rw [hT]
    norm_num
    constructor <;> linarith
  · have h16 : (16 : ℝ) ≤ 16 ^ M := by
      calc (16 : ℝ) = 16 ^ 1 := by norm_num
        _ ≤ _ := pow_le_pow_right₀ (by norm_num) hM
    rw [max_eq_left (by linarith)]
    have hT0 : 0 < T := by linarith
    have hp : (0 : ℝ) < 16 ^ M := by positivity
    have l16 : Real.log 16 = 4 * Real.log 2 := by
      rw [show (16 : ℝ) = 2 ^ 4 by norm_num, Real.log_pow]; norm_num
    have lM : Real.log ((16 : ℝ) ^ M) = M * (4 * Real.log 2) := by rw [Real.log_pow, l16]
    have low : M * (4 * Real.log 2) - Real.log 2 / 10 ≤ Real.log T := by
      have h1 : Real.log ((16 : ℝ) ^ M * (15 / 16)) ≤ Real.log T :=
        Real.log_le_log (by positivity) (by linarith)
      rw [Real.log_mul (by positivity) (by norm_num), lM] at h1
      have h2 : 10 * Real.log (16 / 15) ≤ Real.log 2 := by
        rw [show (10 : ℝ) * Real.log (16 / 15) = Real.log ((16 / 15) ^ 10) by
          rw [Real.log_pow]; norm_num]
        exact Real.log_le_log (by positivity) (by norm_num)
      have h3 : Real.log (15 / 16 : ℝ) = - Real.log (16 / 15) := by
        rw [← Real.log_inv]; norm_num
      linarith
    have upp : Real.log T ≤ M * (4 * Real.log 2) + 15 / 4 * Real.log 2 ∧
        Real.log T ≠ M * (4 * Real.log 2) + 15 / 4 * Real.log 2 := by
      have h1 : Real.log T < Real.log (13 * (16 : ℝ) ^ M) := Real.log_lt_log hT0 (by linarith)
      rw [Real.log_mul (by norm_num) (by positivity), lM] at h1
      have h2 : 4 * Real.log 13 ≤ 15 * Real.log 2 := by
        rw [show (4 : ℝ) * Real.log 13 = Real.log (13 ^ 4) by rw [Real.log_pow]; norm_num,
          show (15 : ℝ) * Real.log 2 = Real.log (2 ^ 15) by rw [Real.log_pow]; norm_num]
        exact Real.log_le_log (by positivity) (by norm_num)
      constructor
      · linarith
      · intro h; linarith
    have upp' := lt_of_le_of_ne upp.1 upp.2
    rw [Int.floor_eq_iff]
    have hx : Real.log T = Real.log T * (Real.log 2)⁻¹ * Real.log 2 := by
      rw [mul_assoc, inv_mul_cancel₀ hl2.ne', mul_one]
    set x := Real.log T * (Real.log 2)⁻¹
    rw [hx] at low upp'
    have a1 : (M : ℝ) * 4 - 1 / 10 ≤ x := by
      by_contra hc
      push Not at hc
      have := mul_lt_mul_of_pos_right hc hl2
      nlinarith
    have a2 : x < (M : ℝ) * 4 + 15 / 4 := by
      by_contra hc
      push Not at hc
      have := mul_le_mul_of_nonneg_right hc hl2.le
      nlinarith
    push_cast
    constructor <;> linarith

end Cert.Trick
-- ==== Proof.KerLanes.lean ====
module

public import proofs.«01_k».proof.Proof.Gen.KernelIdeal.Skeleton
public import proofs.«01_k».proof.Proof.Cast
public import proofs.«01_k».proof.Proof.Lanes
public import proofs.«01_k».proof.Proof.Trick
public import Idealize.ShloMosaic.Lib.Pointwise

@[expose] public section

set_option maxRecDepth 16384

/-! What the kernel's body puts into its lanes of counts, and the greatest values that it takes of them. -/

noncomputable section

namespace Cert.KerLanes

open Idealize.ShloMosaic Cert.KernelIdeal Cert.KernelIdeal.Gen Cert.Lanes

/-- A card's mark for one class. -/
theorem mark (n : ℕ) (hn : n < 2 ^ 32) (x : BitVec 32) (c : Fin n) :
    FloatOps.sitofp (F := Ideal) FTy.f32 (BitVec.setWidth 32 (IntOp.andi (IntOp.cmpi CmpIPredicate.eq x (BitVec.ofNat 32 c.val))
      (IntOp.cmpi CmpIPredicate.ne (BitVec.ofNat 32 c.val) 0#32))) = ((oh n x c : ℕ) : EReal) := by
  rw [Cast.cmpi_eq, Cast.cmpi_ne, Cast.andi_bool, Cast.sitofp_bool]
  have hc : (BitVec.ofNat 32 c.val = 0#32) ↔ c.val = 0 := by
    rw [← BitVec.toNat_inj]; simp; have := c.isLt; omega
  unfold oh
  congr 1
  by_cases h1 : x = BitVec.ofNat 32 c.val <;> by_cases h2 : c.val = 0 <;> simp [h1, h2, hc]

section
variable (v0 : Vec Ideal S128x3 EltTy.i32) (v38 : Vec Ideal S16x14 EltTy.bf16)

/-- A card's rank. -/
def rk (i : Fin 128) : BitVec 32 := v0 (ix2 i 0)
/-- A card's suit. -/
def su (i : Fin 128) : BitVec 32 := v0 (ix2 i 1)
/-- A card's enhancement. -/
def en (i : Fin 128) : BitVec 32 := v0 (ix2 i 2)

/-- The marks of the ranks. -/
theorem pay7_at (i : Fin 128) (c : Fin 14) : (k0_pay7 v0 (ix2 i c) : EReal) = ((oh 14 (rk v0 i) c : ℕ) : EReal) := by
  refine Eq.trans ?_ (mark 14 (by decide) (rk v0 i) c)
  unfold rk k0_pay7 k0_pay5 k0_pay4
  pointwise

/-- The marks of the suits. -/
theorem pay8_at (i : Fin 128) (c : Fin 6) : (k0_pay8 v0 (ix2 i c) : EReal) = ((oh 6 (su v0 i) c : ℕ) : EReal) := by
  refine Eq.trans ?_ (mark 6 (by decide) (su v0 i) c)
  unfold su k0_pay8 k0_pay6 k0_pay4
  pointwise

/-- The marks of the straights. -/
theorem pay9_at (h38 : ∀ s c, (v38 (ix2 s c) : EReal) = ((straight16 s c : ℕ) : EReal)) (i : Fin 128) (s : Fin 16) :
    (k0_pay9 v0 v38 (ix2 i s) : EReal) = ((on (rk v0 i) s : ℕ) : EReal) := by
  have e : (k0_pay9 v0 v38 (ix2 i s) : EReal) = ∑ x : Fin 14, (k0_pay7 v0 (ix2 i x) : EReal) * (v38 (ix2 s x) : EReal) := by
    unfold k0_pay9; pointwise
  rw [e]
  simp only [pay7_at, h38]
  rw [Cast.cast_dot]
  rfl

/-- The lanes of a card that is taken. -/
theorem pay10_at (h38 : ∀ s c, (v38 (ix2 s c) : EReal) = ((straight16 s c : ℕ) : EReal)) (i c : Fin 128) :
    (k0_pay10 v0 v38 (ix2 i c) : EReal) = ((rowIn (rk v0 i) (su v0 i) (en v0 i) c : ℕ) : EReal) := by
  unfold k0_pay10
  pointwise
  unfold rowIn
  by_cases h1 : c.val < 14
  · rw [dif_pos h1, dif_pos h1]; exact pay7_at v0 i _
  rw [dif_neg h1, dif_neg h1]
  by_cases h2 : c.val - 14 < 6
  · rw [dif_pos h2, dif_pos h2]; exact pay8_at v0 i _
  rw [dif_neg h2, dif_neg h2]
  by_cases h3 : c.val - 14 - 6 < 20
  · rw [dif_pos h3, if_pos h3]; simp
  rw [dif_neg h3, if_neg h3]
  by_cases h4 : c.val - 14 - 6 - 20 < 16
  · rw [dif_pos h4, dif_pos h4]; exact pay9_at v0 v38 h38 i _
  rw [dif_neg h4, dif_neg h4]
  by_cases h5 : c.val - 14 - 6 - 20 - 16 < 16
  · rw [dif_pos h5, if_pos h5]; simp
  rw [dif_neg h5, if_neg h5]
  by_cases h6 : c.val - 14 - 6 - 20 - 16 - 16 < 1
  · rw [dif_pos h6, if_pos h6]
    have e1 : (⟨c.val - 14 - 6 - 20 - 16 - 16, by omega⟩ : Fin 3) = 0 := Fin.ext (by simp; omega)
    have e2 : (⟨1 + (c.val - 14 - 6 - 20 - 16 - 16), by omega⟩ : Fin 3) = 1 := Fin.ext (by simp; omega)
    have e3 : (⟨2 + (c.val - 14 - 6 - 20 - 16 - 16), by omega⟩ : Fin 3) = 2 := Fin.ext (by simp; omega)
    have k : ∀ x y z : BitVec 32, FloatOps.sitofp (F := Ideal) FTy.f32 (BitVec.setWidth 32 (IntOp.andi (IntOp.andi
        (IntOp.cmpi CmpIPredicate.eq x 0#32) (IntOp.cmpi CmpIPredicate.eq y 0#32)) (IntOp.cmpi CmpIPredicate.eq z 0#32)))
        = (((if x = 0#32 ∧ y = 0#32 ∧ z = 0#32 then 1 else 0 : ℕ)) : EReal) := fun x y z => by
      rw [Cast.cmpi_eq, Cast.cmpi_eq, Cast.cmpi_eq, Cast.andi_bool, Cast.andi_bool, Cast.sitofp_bool]
      congr 1
      by_cases h1 : x = 0#32 <;> by_cases h2 : y = 0#32 <;> by_cases h3 : z = 0#32 <;> simp [h1, h2, h3]
    refine Eq.trans ?_ (k (rk v0 i) (su v0 i) (en v0 i))
    have q : ∀ t, k0_pay4 v0 (ix2 i t) = v0 (ix2 i t) := fun t => by unfold k0_pay4; pointwise
    have q1 : k0_pay5 v0 (ix2 i ⟨c.val - 14 - 6 - 20 - 16 - 16, by omega⟩) = rk v0 i := by
      unfold k0_pay5; pointwise; exact (q _).trans (congrArg (fun t => v0 (ix2 i t)) e1)
    have q2 : k0_pay6 v0 (ix2 i ⟨c.val - 14 - 6 - 20 - 16 - 16, by omega⟩) = su v0 i := by
      unfold k0_pay6; pointwise; exact (q _).trans (congrArg (fun t => v0 (ix2 i t)) e2)
    have q3 : k0_pay4 v0 (ix2 i ⟨2 + (c.val - 14 - 6 - 20 - 16 - 16), by omega⟩) = en v0 i :=
      (q _).trans (congrArg (fun t => v0 (ix2 i t)) e3)
    rw [← q1, ← q2, ← q3]
  · rw [dif_neg h6, if_neg h6]; simp

/-- The lanes of a card that is left. -/
theorem rowOut_at (h38 : ∀ s c, (v38 (ix2 s c) : EReal) = ((straight16 s c : ℕ) : EReal)) (i c : Fin 128) :
    (if h : c.val < 20 then (0 : EReal)
      else if h : c.val - 20 < 14 then (k0_pay7 v0 (ix2 i ⟨c.val - 20, h⟩) : EReal)
      else if h : c.val - 20 - 14 < 6 then (k0_pay8 v0 (ix2 i ⟨c.val - 20 - 14, h⟩) : EReal)
      else if h : c.val - 20 - 14 - 6 < 16 then (0 : EReal)
      else if h : c.val - 20 - 14 - 6 - 16 < 16 then (k0_pay9 v0 v38 (ix2 i ⟨c.val - 20 - 14 - 6 - 16, h⟩) : EReal) else (0 : EReal))
      = ((rowOut (rk v0 i) (su v0 i) c : ℕ) : EReal) := by
  unfold rowOut
  split
  · simp
  split
  · exact pay7_at v0 i _
  split
  · exact pay8_at v0 i _
  split
  · simp
  split
  · exact pay9_at v0 v38 h38 i _
  · simp

variable (cst : Ideal FTy.bf16) (v50 : Vec Ideal S3584x256 EltTy.bf16)

/-- The sums over the cards, as the body takes them. -/
theorem pay11_at (hz : cst = (0 : EReal)) (h38 : ∀ s c, (v38 (ix2 s c) : EReal) = ((straight16 s c : ℕ) : EReal)) (i : Fin 3584) (c : Fin 128)
    (u u' : Fin 128 → ℕ) (hu : ∀ x : Fin 128, (v50 (ix2 i ⟨x.val, by omega⟩) : EReal) = ((u x : ℕ) : EReal))
    (hu' : ∀ x : Fin 128, (v50 (ix2 i ⟨128 + x.val, by omega⟩) : EReal) = ((u' x : ℕ) : EReal)) :
    (k0_pay11 (k0_pay7 v0) (k0_pay8 v0) (k0_pay9 v0 v38) (k0_pay10 v0 v38) cst v50 (ix2 i c) : EReal)
      = ((∑ x, u x * rowIn (rk v0 x) (su v0 x) (en v0 x) c + ∑ x, u' x * rowOut (rk v0 x) (su v0 x) c : ℕ) : EReal) := by
  have e := fun x => rowOut_at v0 v38 h38 x c
  have e' := fun x => pay10_at v0 v38 h38 x c
  subst hz
  generalize k0_pay7 v0 = v16 at e ⊢
  generalize k0_pay8 v0 = v26 at e ⊢
  generalize k0_pay9 v0 v38 = v40 at e ⊢
  generalize k0_pay10 v0 v38 = v44 at e' ⊢
  unfold k0_pay11
  pointwise
  rw [Nat.cast_add, ← Cast.cast_dot, ← Cast.cast_dot]
  refine congr (congrArg _ ?_) ?_
  · exact Finset.sum_congr rfl fun x _ => congr (congrArg _ (hu x)) (e' x)
  · exact Finset.sum_congr rfl fun x _ => congr (congrArg _ (hu' x)) (e x)

end

/-- A sum in which only the cards of hand `b` count. -/
theorem hand_sum (b : Fin 16) (w : Fin 8 → ℕ) (g : Fin 128 → ℕ) :
    (∑ x : Fin 128, (if x.val / 8 = b.val then w ⟨x.val % 8, by omega⟩ else 0) * g x)
      = ∑ h : Fin 8, w h * g ⟨b.val * 8 + h.val, by omega⟩ := by
  have e : ∀ x : Fin 128, (if x.val / 8 = b.val then w ⟨x.val % 8, by omega⟩ else 0) * g x
      = if x.val / 8 = b.val then w ⟨x.val % 8, by omega⟩ * g x else 0 := fun x => by split <;> simp
  rw [Finset.sum_congr rfl fun x _ => e x, sum_block b fun x => w ⟨x.val % 8, by omega⟩ * g x]
  refine Finset.sum_congr rfl fun h _ => ?_
  have e1 : (⟨(b.val * 8 + h.val) % 8, by omega⟩ : Fin 8) = h := Fin.ext (by simp)
  exact congrArg (fun t => w t * _) e1

/-- The lanes after the sums over the cards of hand `b`, for a row that selects that hand. -/
theorem lanes_at (v0 : Vec Ideal S128x3 EltTy.i32) (v38 : Vec Ideal S16x14 EltTy.bf16) (cst : Ideal FTy.bf16)
    (v50 : Vec Ideal S3584x256 EltTy.bf16) (hz : cst = (0 : EReal)) (h38 : ∀ s c, (v38 (ix2 s c) : EReal) = ((straight16 s c : ℕ) : EReal))
    (i : Fin 3584) (b : Fin 16) (w : Fin 8 → ℕ)
    (hu : ∀ x : Fin 128, (v50 (ix2 i ⟨x.val, by omega⟩) : EReal)
      = ((if x.val / 8 = b.val then w ⟨x.val % 8, by omega⟩ else 0 : ℕ) : EReal))
    (hu' : ∀ x : Fin 128, (v50 (ix2 i ⟨128 + x.val, by omega⟩) : EReal)
      = ((if x.val / 8 = b.val then Model.rest w ⟨x.val % 8, by omega⟩ else 0 : ℕ) : EReal)) (c : Fin 128) :
    (k0_pay11 (k0_pay7 v0) (k0_pay8 v0) (k0_pay9 v0 v38) (k0_pay10 v0 v38) cst v50 (ix2 i c) : EReal)
      = ((lane w (fun h => rk v0 ⟨b.val * 8 + h.val, by omega⟩) (fun h => su v0 ⟨b.val * 8 + h.val, by omega⟩)
          (fun h => en v0 ⟨b.val * 8 + h.val, by omega⟩) c : ℕ) : EReal) := by
  rw [pay11_at v0 v38 cst v50 hz h38 i c _ _ hu hu', hand_sum b w, hand_sum b (Model.rest w)]
  rfl

/-! ## The greatest value over a range of lanes -/

/-- Powers of 16 by the exponential to base 2. -/
theorem exp2_nat (n : ℕ) : FloatOps.exp2 (F := Ideal) (φ := .f32) ((Ideal.ofBits FTy.f32 0x40800000#32 : EReal) * ((n : ℕ) : EReal)) = ((16 ^ n : ℕ) : EReal) := by
  rw [Cast.bits_four, ← EReal.natCast_mul]
  show Ideal.exp2 (((((4 * n : ℕ) : ℝ)) : EReal)) = _
  rw [Ideal.exp2_coe]
  have : Real.rpow 2 ((4 * n : ℕ) : ℝ) = ((16 ^ n : ℕ) : ℝ) := by
    show (2 : ℝ) ^ ((4 * n : ℕ) : ℝ) = _
    rw [Real.rpow_natCast, pow_mul]; norm_num
  rw [this]
  rfl

/-- The greatest count over a range of lanes, by a sum of powers of 16, a logarithm and a floor. -/
theorem greatest (L : Fin 128 → ℕ) (lo n : ℕ) (hn : lo + n ≤ 128)
    (h13 : ((Finset.univ.filter fun l : Fin 128 => lo ≤ l.val ∧ l.val < lo + n).filter fun l => L l ≠ 0).card ≤ 13) :
    Ideal.liftRound Int.floor (Ideal.log (max (∑ x : Fin 128, (((16 ^ L x : ℕ)) : EReal)
        * ((if lo ≤ x.val ∧ x.val < lo + n then 1 else 0 : ℕ) : EReal) - ((n : ℕ) : EReal)) 1) * (((Real.log 2)⁻¹ : ℝ) : EReal)
        * ((1 / 4 : ℝ) : EReal) + ((16106127 / 536870912 : ℝ) : EReal))
      = (((Finset.univ.filter fun l : Fin 128 => lo ≤ l.val ∧ l.val < lo + n).sup L : ℕ) : EReal) := by
  set s := Finset.univ.filter fun l : Fin 128 => lo ≤ l.val ∧ l.val < lo + n with hs
  have hc : s.card = n := by
    have := Lanes.sum_range (M := ℕ) lo n hn fun _ => 1
    rw [← Finset.sum_filter] at this
    simpa using this
  have e1 : (∑ x : Fin 128, (((16 ^ L x : ℕ)) : EReal) * ((if lo ≤ x.val ∧ x.val < lo + n then 1 else 0 : ℕ) : EReal))
      = ((∑ x ∈ s, (16 : ℝ) ^ L x : ℝ) : EReal) := by
    rw [Cast.cast_dot]
    have : (∑ x : Fin 128, 16 ^ L x * (if lo ≤ x.val ∧ x.val < lo + n then 1 else 0)) = ∑ x ∈ s, 16 ^ L x := by
      rw [hs, Finset.sum_filter]
      exact Finset.sum_congr rfl fun x _ => by split <;> simp
    rw [this]
    exact (EReal.coe_coe_eq_natCast _).symm.trans (congrArg _ (by push_cast; rfl))
  rw [e1]
  have e2 : ((∑ x ∈ s, (16 : ℝ) ^ L x : ℝ) : EReal) - ((n : ℕ) : EReal) = ((∑ x ∈ s, (16 : ℝ) ^ L x - s.card : ℝ) : EReal) := by
    rw [hc]; rfl
  have e3 : ∀ y : ℝ, max (y : EReal) 1 = ((max y 1 : ℝ) : EReal) := fun y => by
    exact (EReal.coe_strictMono.monotone.map_max (a := y) (b := 1)).symm
  rw [e2, e3, Ideal.log_coe, if_neg (by have := le_max_right (∑ x ∈ s, (16 : ℝ) ^ L x - s.card) 1; linarith)]
  rw [← EReal.coe_mul, ← EReal.coe_mul, ← EReal.coe_add, Ideal.liftRound_coe,
    Trick.floor_log s L _ (by norm_num) (by norm_num) h13]
  rfl

end Cert.KerLanes

end
-- ==== Proof.Tables.lean ====
module

public import proofs.«01_k».proof.Proof.Cast
public import proofs.«01_k».proof.KernelIdeal
public import proofs.«01_k».proof.ReferenceIdeal

@[expose] public section

set_option maxRecDepth 16384

/-! The literal tables of the two programs, entry by entry. -/

noncomputable section

namespace Cert.Tables

open Idealize.ShloMosaic

/-! ## Words of small numbers -/

/-- The f32 pattern of a small number (and of 99). -/
def fword (n : ℕ) : BitVec 32 :=
  match n with
  | 0 => 0x00000000#32 | 1 => 0x3F800000#32 | 2 => 0x40000000#32 | 3 => 0x40400000#32 | 4 => 0x40800000#32
  | 5 => 0x40A00000#32 | 6 => 0x40C00000#32 | 7 => 0x40E00000#32 | 8 => 0x41000000#32 | 14 => 0x41600000#32
  | 16 => 0x41800000#32 | 99 => 0x42C60000#32 | _ => 0x00000000#32

/-- The numbers that `fword` gives the pattern of. -/
def small (n : ℕ) : Bool := decide (n ≤ 8) || (n == 14 || n == 16) || n == 99

/-- `fword` gives the pattern of the number. -/
theorem ofBits_fword (n : ℕ) (h : small n = true) : Ideal.ofBits .f32 (fword n) = ((n : ℕ) : EReal) := by
  have : n = 0 ∨ n = 1 ∨ n = 2 ∨ n = 3 ∨ n = 4 ∨ n = 5 ∨ n = 6 ∨ n = 7 ∨ n = 8 ∨ n = 14 ∨ n = 16 ∨ n = 99 := by
    simp [small] at h; omega
  rcases this with h | h | h | h | h | h | h | h | h | h | h | h <;> subst h <;>
    simp [fword, Ideal.ofBits, Ideal.ieee, -EReal.coe_mul] <;> norm_num <;> rfl

/-! ## The plays -/

/-- Whether play `m` takes card `h`. -/
def mask (m : Fin 218) (h : Fin 8) : ℕ :=
  if ReferenceIdeal.lit0 ⟨m.val * 8 + h.val, by omega⟩ = 0x3F800000#32 then 1 else 0

/-- The reference's mask table. -/
theorem ref_mask : ∀ (m : Fin 218) (h : Fin 8), ReferenceIdeal.lit0 ⟨m.val * 8 + h.val, by omega⟩ = fword (mask m h) := by
  decide +kernel

/-- The kernel's mask table has the reference's rows. -/
theorem ker_mask : ∀ (m : Fin 218) (h : Fin 8), KernelIdeal.lit1 ⟨m.val * 8 + h.val, by omega⟩ = fword (mask m h) := by
  decide +kernel

/-- A mask entry is 0 or 1. -/
theorem mask_le (m : Fin 218) (h : Fin 8) : mask m h ≤ 1 := by unfold mask; split <;> omega

/-- The kernel's table of sizes. -/
theorem ker_size : ∀ (m : Fin 218), KernelIdeal.lit2 ⟨m.val * 2, by omega⟩ = fword (∑ h, mask m h)
    ∧ KernelIdeal.lit2 ⟨m.val * 2 + 1, by omega⟩ = fword (∑ h, (1 - mask m h)) := by
  decide +kernel

/-- A play takes one to five of the eight cards. -/
theorem size_le : ∀ (m : Fin 218), small (∑ h, mask m h) = true ∧ small (∑ h, (1 - mask m h)) = true := by
  decide +kernel

/-- The size that each flag asks for. -/
def req (j : Fin 8) : ℕ := match j with | 0 => 2 | 1 => 3 | 2 => 4 | 3 => 5 | 4 => 4 | 5 => 5 | 6 => 5 | 7 => 5
/-- The sum of tests at which each flag is set. -/
def base (j : Fin 8) : ℕ := match j with | 0 => 1 | 1 => 1 | 2 => 1 | 3 => 2 | 4 => 1 | 5 => 2 | 6 => 1 | 7 => 3

/-- The sum of tests at which the flag is set for a play of the size, 99 (never reached) if the size is too small. -/
def need (z : ℕ) (j : Fin 8) : ℕ := if req j ≤ z then base j else 99

/-- The kernel's table of needs. -/
theorem ker_need : ∀ (m : Fin 218) (j : Fin 8),
    KernelIdeal.lit3 ⟨m.val * 16 + j.val, by omega⟩ = fword (need (∑ h, mask m h) j)
    ∧ KernelIdeal.lit3 ⟨m.val * 16 + (8 + j.val), by omega⟩ = fword (need (∑ h, (1 - mask m h)) j) := by
  decide +kernel

/-- Needs are among the small numbers. -/
theorem need_small (z : ℕ) (j : Fin 8) : small (need z j) = true := by
  unfold need; split
  · exact (show ∀ j, small (base j) = true by decide) j
  · decide

/-! ## The straights -/

/-- The reference's table of straights. -/
theorem ref_straight : ∀ (s : Fin 10) (c : Fin 14),
    ReferenceIdeal.lit1 ⟨s.val * 14 + c.val, by omega⟩ = fword (Model.straight s c) := by
  decide +kernel

/-- Straights, and six rows of zeros. -/
def straight16 (s : Fin 16) (c : Fin 14) : ℕ := if h : s.val < 10 then Model.straight ⟨s.val, h⟩ c else 0

/-- The upper half of a pattern: the bf16 pattern of the same small number. -/
def bword (n : ℕ) : BitVec 16 := (fword n).extractLsb' 16 16

/-- `bword` gives the bf16 pattern of 0 and 1. -/
theorem ofBits_bword (n : ℕ) (h : n ≤ 1) : Ideal.ofBits .bf16 (bword n) = ((n : ℕ) : EReal) := by
  have : n = 0 ∨ n = 1 := by omega
  rcases this with h | h <;> subst h <;> simp [bword, fword, Ideal.ofBits, Ideal.ieee, -EReal.coe_mul]
  norm_num

/-- The kernel's table of straights. -/
theorem ker_straight : ∀ (s : Fin 16) (c : Fin 14),
    KernelIdeal.lit4 ⟨s.val * 14 + c.val, by omega⟩ = bword (straight16 s c) := by
  decide +kernel

/-- A straight's entry is 0 or 1. -/
theorem straight_le (s : Fin 16) (c : Fin 14) : straight16 s c ≤ 1 := by
  revert s c; decide +kernel

/-! ## Which lanes each test reads -/

/-- The lanes of the greatest count: ranks (14), suits (6), straights (16) taken, then left. -/
def segLo (c : Fin 32) : ℕ :=
  match c.val with
  | 0 => 0 | 1 => 14 | 3 => 40 | 4 => 20 | 5 => 34 | 7 => 56
  | 8 => 0 | 9 => 0 | 10 => 0 | 11 => 14 | 12 => 40 | 13 => 40
  | 19 => 20 | 20 => 20 | 21 => 20 | 22 => 34 | 23 => 56 | 24 => 56 | _ => 0

/-- How many lanes. -/
def segN (c : Fin 32) : ℕ :=
  match c.val with
  | 0 => 14 | 1 => 6 | 3 => 16 | 4 => 14 | 5 => 6 | 7 => 16
  | 8 => 14 | 9 => 14 | 10 => 14 | 11 => 6 | 12 => 16 | 13 => 16
  | 19 => 14 | 20 => 14 | 21 => 14 | 22 => 6 | 23 => 16 | 24 => 16 | _ => 0

/-- The kernel's table of those lanes. -/
theorem ker_seg : ∀ (l : Fin 128) (c : Fin 32), KernelIdeal.lit5 ⟨l.val * 32 + c.val, by omega⟩
    = bword (if segLo c ≤ l.val ∧ l.val < segLo c + segN c then 1 else 0) := by
  decide +kernel

/-- The kernel's table of how many lanes. -/
theorem ker_segN : ∀ (c : Fin 32), KernelIdeal.lit6 c = fword (segN c) ∧ small (segN c) = true := by
  decide +kernel

/-- The lanes that are summed: counts (the wild suit), then positive counts, then counts from two. -/
def sumLo (c : Fin 32) : ℕ :=
  match c.val with
  | 1 => 19 | 2 => 128 | 5 => 39 | 6 => 148 | 11 => 19 | 14 => 128 | 15 => 128 | 16 => 128 | 17 => 256 | 18 => 256
  | 22 => 39 | 25 => 148 | 26 => 148 | 27 => 148 | 28 => 276 | 29 => 276 | _ => 0

/-- How many lanes are summed. -/
def sumN (c : Fin 32) : ℕ :=
  match c.val with
  | 1 => 1 | 2 => 14 | 5 => 1 | 6 => 14 | 11 => 1 | 14 => 14 | 15 => 14 | 16 => 14 | 17 => 14 | 18 => 14
  | 22 => 1 | 25 => 14 | 26 => 14 | 27 => 14 | 28 => 14 | 29 => 14 | _ => 0

/-- The kernel's table of the lanes that are summed. -/
theorem ker_sum : ∀ (l : Fin 384) (c : Fin 32), KernelIdeal.lit7 ⟨l.val * 32 + c.val, by omega⟩
    = bword (if sumLo c ≤ l.val ∧ l.val < sumLo c + sumN c then 1 else 0) := by
  decide +kernel

/-- Whether a column is one of the tests, and its threshold. -/
def thr (c : Fin 32) : ℕ :=
  match c.val with
  | 8 => 2 | 9 => 3 | 10 => 4 | 11 => 5 | 12 => 5 | 13 => 6 | 14 => 2 | 15 => 3 | 16 => 5 | 17 => 2 | 18 => 3
  | 19 => 2 | 20 => 3 | 21 => 4 | 22 => 5 | 23 => 5 | 24 => 6 | 25 => 2 | 26 => 3 | 27 => 5 | 28 => 2 | 29 => 3
  | _ => 0

/-- The kernel's thresholds. -/
theorem ker_thr : ∀ (c : Fin 32), 0 < thr c → KernelIdeal.lit8 c = fword (thr c) ∧ small (thr c) = true := by
  decide +kernel

/-- How each test enters each flag. -/
def coef (c : Fin 32) (j : Fin 16) : ℤ :=
  match j.val, c.val with
  | 0, 8 => 1 | 1, 9 => 1 | 2, 10 => 1 | 3, 9 => 1 | 3, 10 => -1 | 3, 14 => 1 | 3, 15 => -1
  | 4, 17 => 1 | 4, 18 => -1 | 5, 12 => 1 | 5, 13 => -1 | 5, 16 => 1 | 6, 11 => 1
  | 7, 12 => 1 | 7, 13 => -1 | 7, 16 => 1 | 7, 11 => 1
  | 8, 19 => 1 | 9, 20 => 1 | 10, 21 => 1 | 11, 20 => 1 | 11, 21 => -1 | 11, 25 => 1 | 11, 26 => -1
  | 12, 28 => 1 | 12, 29 => -1 | 13, 23 => 1 | 13, 24 => -1 | 13, 27 => 1 | 14, 22 => 1
  | 15, 23 => 1 | 15, 24 => -1 | 15, 27 => 1 | 15, 22 => 1
  | _, _ => 0

/-- The bf16 pattern of -1, 0 and 1. -/
def zword (z : ℤ) : BitVec 16 := if z = 1 then 0x3F80#16 else if z = -1 then 0xBF80#16 else 0#16

/-- The kernel's table of how each test enters each flag. -/
theorem ker_coef : ∀ (c : Fin 32) (j : Fin 16), KernelIdeal.lit9 ⟨c.val * 16 + j.val, by omega⟩ = zword (coef c j)
    ∧ (coef c j = 0 ∨ coef c j = 1 ∨ coef c j = -1) := by
  decide +kernel

/-- Columns that are no tests enter no flag. -/
theorem coef_zero : ∀ (c : Fin 32) (j : Fin 16), thr c = 0 → coef c j = 0 := by decide +kernel

/-- `zword` gives the pattern. -/
theorem ofBits_zword (z : ℤ) (h : z = 0 ∨ z = 1 ∨ z = -1) : Ideal.ofBits .bf16 (zword z) = ((z : ℝ) : EReal) := by
  rcases h with h | h | h <;> subst h <;> simp [zword, Ideal.ofBits, Ideal.ieee, -EReal.coe_mul]
  all_goals norm_num

/-! ## The order of the metadata in the kernel -/

/-- The metadata entry (of 66) at each lane of the kernel's order. -/
def perm (k : Fin 66) : Fin 66 :=
  if h : k.val < 20 then ⟨13 + k.val, by omega⟩
  else if h : k.val < 40 then ⟨26 + k.val, by omega⟩
  else if h : k.val < 48 then ⟨k.val - 40, by omega⟩
  else if h : k.val < 56 then ⟨k.val - 15, by omega⟩
  else if h : k.val < 60 then ⟨k.val - 48, by omega⟩
  else if h : k.val < 64 then ⟨k.val - 19, by omega⟩
  else if k.val = 64 then 12 else 45

/-- The kernel's order. -/
theorem ker_perm : ∀ (k : Fin 66), KernelIdeal.lit0 k = BitVec.ofNat 32 (perm k).val := by decide +kernel

/-- The order reaches every entry once. -/
theorem perm_injective : Function.Injective perm := by
  intro a b; revert a b; decide +kernel

end Cert.Tables

end
-- ==== Proof.Flags.lean ====
module

public import proofs.«01_k».proof.Proof.Lanes
public import proofs.«01_k».proof.Proof.Tables

@[expose] public section

set_option maxRecDepth 16384

/-! The kernel's tests and flags, and its order of the metadata, as natural numbers. -/

noncomputable section

namespace Cert.Flags

open Idealize.ShloMosaic Cert.Tables Cert.Lanes

/-! Which tests enter each flag. -/

theorem coef_0 (B : Fin 32 → ℤ) : ∑ c, B c * coef c 0 = B 8 := by
  have h : ∀ c : Fin 32, coef c 0 = (if c = 8 then 1 else 0) := by decide +kernel
  simp only [h, mul_add, mul_sub, mul_ite, mul_one, mul_zero, Finset.sum_add_distrib, Finset.sum_sub_distrib,
    Finset.sum_ite_eq', Finset.mem_univ, if_true]

theorem coef_1 (B : Fin 32 → ℤ) : ∑ c, B c * coef c 1 = B 9 := by
  have h : ∀ c : Fin 32, coef c 1 = (if c = 9 then 1 else 0) := by decide +kernel
  simp only [h, mul_add, mul_sub, mul_ite, mul_one, mul_zero, Finset.sum_add_distrib, Finset.sum_sub_distrib,
    Finset.sum_ite_eq', Finset.mem_univ, if_true]

theorem coef_2 (B : Fin 32 → ℤ) : ∑ c, B c * coef c 2 = B 10 := by
  have h : ∀ c : Fin 32, coef c 2 = (if c = 10 then 1 else 0) := by decide +kernel
  simp only [h, mul_add, mul_sub, mul_ite, mul_one, mul_zero, Finset.sum_add_distrib, Finset.sum_sub_distrib,
    Finset.sum_ite_eq', Finset.mem_univ, if_true]

theorem coef_3 (B : Fin 32 → ℤ) : ∑ c, B c * coef c 3 = B 9 - B 10 + B 14 - B 15 := by
  have h : ∀ c : Fin 32, coef c 3 = (if c = 9 then 1 else 0) - (if c = 10 then 1 else 0) + (if c = 14 then 1 else 0) - (if c = 15 then 1 else 0) := by decide +kernel
  simp only [h, mul_add, mul_sub, mul_ite, mul_one, mul_zero, Finset.sum_add_distrib, Finset.sum_sub_distrib,
    Finset.sum_ite_eq', Finset.mem_univ, if_true]

theorem coef_4 (B : Fin 32 → ℤ) : ∑ c, B c * coef c 4 = B 17 - B 18 := by
  have h : ∀ c : Fin 32, coef c 4 = (if c = 17 then 1 else 0) - (if c = 18 then 1 else 0) := by decide +kernel
  simp only [h, mul_add, mul_sub, mul_ite, mul_one, mul_zero, Finset.sum_add_distrib, Finset.sum_sub_distrib,
    Finset.sum_ite_eq', Finset.mem_univ, if_true]

theorem coef_5 (B : Fin 32 → ℤ) : ∑ c, B c * coef c 5 = B 12 - B 13 + B 16 := by
  have h : ∀ c : Fin 32, coef c 5 = (if c = 12 then 1 else 0) - (if c = 13 then 1 else 0) + (if c = 16 then 1 else 0) := by decide +kernel
  simp only [h, mul_add, mul_sub, mul_ite, mul_one, mul_zero, Finset.sum_add_distrib, Finset.sum_sub_distrib,
    Finset.sum_ite_eq', Finset.mem_univ, if_true]

theorem coef_6 (B : Fin 32 → ℤ) : ∑ c, B c * coef c 6 = B 11 := by
  have h : ∀ c : Fin 32, coef c 6 = (if c = 11 then 1 else 0) := by decide +kernel
  simp only [h, mul_add, mul_sub, mul_ite, mul_one, mul_zero, Finset.sum_add_distrib, Finset.sum_sub_distrib,
    Finset.sum_ite_eq', Finset.mem_univ, if_true]

theorem coef_7 (B : Fin 32 → ℤ) : ∑ c, B c * coef c 7 = B 11 + B 12 - B 13 + B 16 := by
  have h : ∀ c : Fin 32, coef c 7 = (if c = 11 then 1 else 0) + (if c = 12 then 1 else 0) - (if c = 13 then 1 else 0) + (if c = 16 then 1 else 0) := by decide +kernel
  simp only [h, mul_add, mul_sub, mul_ite, mul_one, mul_zero, Finset.sum_add_distrib, Finset.sum_sub_distrib,
    Finset.sum_ite_eq', Finset.mem_univ, if_true]

theorem coef_8 (B : Fin 32 → ℤ) : ∑ c, B c * coef c 8 = B 19 := by
  have h : ∀ c : Fin 32, coef c 8 = (if c = 19 then 1 else 0) := by decide +kernel
  simp only [h, mul_add, mul_sub, mul_ite, mul_one, mul_zero, Finset.sum_add_distrib, Finset.sum_sub_distrib,
    Finset.sum_ite_eq', Finset.mem_univ, if_true]

theorem coef_9 (B : Fin 32 → ℤ) : ∑ c, B c * coef c 9 = B 20 := by
  have h : ∀ c : Fin 32, coef c 9 = (if c = 20 then 1 else 0) := by decide +kernel
  simp only [h, mul_add, mul_sub, mul_ite, mul_one, mul_zero, Finset.sum_add_distrib, Finset.sum_sub_distrib,
    Finset.sum_ite_eq', Finset.mem_univ, if_true]

theorem coef_10 (B : Fin 32 → ℤ) : ∑ c, B c * coef c 10 = B 21 := by
  have h : ∀ c : Fin 32, coef c 10 = (if c = 21 then 1 else 0) := by decide +kernel
  simp only [h, mul_add, mul_sub, mul_ite, mul_one, mul_zero, Finset.sum_add_distrib, Finset.sum_sub_distrib,
    Finset.sum_ite_eq', Finset.mem_univ, if_true]

theorem coef_11 (B : Fin 32 → ℤ) : ∑ c, B c * coef c 11 = B 20 - B 21 + B 25 - B 26 := by
  have h : ∀ c : Fin 32, coef c 11 = (if c = 20 then 1 else 0) - (if c = 21 then 1 else 0) + (if c = 25 then 1 else 0) - (if c = 26 then 1 else 0) := by decide +kernel
  simp only [h, mul_add, mul_sub, mul_ite, mul_one, mul_zero, Finset.sum_add_distrib, Finset.sum_sub_distrib,
    Finset.sum_ite_eq', Finset.mem_univ, if_true]

theorem coef_12 (B : Fin 32 → ℤ) : ∑ c, B c * coef c 12 = B 28 - B 29 := by
  have h : ∀ c : Fin 32, coef c 12 = (if c = 28 then 1 else 0) - (if c = 29 then 1 else 0) := by decide +kernel
  simp only [h, mul_add, mul_sub, mul_ite, mul_one, mul_zero, Finset.sum_add_distrib, Finset.sum_sub_distrib,
    Finset.sum_ite_eq', Finset.mem_univ, if_true]

theorem coef_13 (B : Fin 32 → ℤ) : ∑ c, B c * coef c 13 = B 23 - B 24 + B 27 := by
  have h : ∀ c : Fin 32, coef c 13 = (if c = 23 then 1 else 0) - (if c = 24 then 1 else 0) + (if c = 27 then 1 else 0) := by decide +kernel
  simp only [h, mul_add, mul_sub, mul_ite, mul_one, mul_zero, Finset.sum_add_distrib, Finset.sum_sub_distrib,
    Finset.sum_ite_eq', Finset.mem_univ, if_true]

theorem coef_14 (B : Fin 32 → ℤ) : ∑ c, B c * coef c 14 = B 22 := by
  have h : ∀ c : Fin 32, coef c 14 = (if c = 22 then 1 else 0) := by decide +kernel
  simp only [h, mul_add, mul_sub, mul_ite, mul_one, mul_zero, Finset.sum_add_distrib, Finset.sum_sub_distrib,
    Finset.sum_ite_eq', Finset.mem_univ, if_true]

theorem coef_15 (B : Fin 32 → ℤ) : ∑ c, B c * coef c 15 = B 22 + B 23 - B 24 + B 27 := by
  have h : ∀ c : Fin 32, coef c 15 = (if c = 22 then 1 else 0) + (if c = 23 then 1 else 0) - (if c = 24 then 1 else 0) + (if c = 27 then 1 else 0) := by decide +kernel
  simp only [h, mul_add, mul_sub, mul_ite, mul_one, mul_zero, Finset.sum_add_distrib, Finset.sum_sub_distrib,
    Finset.sum_ite_eq', Finset.mem_univ, if_true]

/-- One if it holds. -/
def ind (p : Prop) [Decidable p] : ℤ := if p then 1 else 0

theorem ind_or (p : Prop) [Decidable p] : (p ∧ ind p = 1) ∨ (¬p ∧ ind p = 0) := by
  unfold ind; by_cases h : p <;> simp [h]

theorem need_or (Z : ℕ) (j : Fin 8) (q b : ℕ) (hq : req j = q) (hb : base j = b) :
    (q ≤ Z ∧ ((need Z j : ℕ) : ℤ) = b) ∨ (Z < q ∧ ((need Z j : ℕ) : ℤ) = 99) := by
  subst hq; subst hb; unfold need
  by_cases h : req j ≤ Z
  · rw [if_pos h]; exact Or.inl ⟨h, rfl⟩
  · rw [if_neg h]; exact Or.inr ⟨by omega, rfl⟩

/-! The flags by sums of tests. -/

theorem flag_0 (w : Fin 8 → ℕ) (r s : Fin 8 → BitVec 32) :
    ind (2 ≤ Model.maxRank w r) = ((need (Model.size w) 0 : ℕ) : ℤ) ↔ Model.flag w r s 0 = true := by
  have n := need_or (Model.size w) 0 2 1 rfl rfl
  have i0 := ind_or (2 ≤ Model.maxRank w r)
  simp only [Model.flag, Bool.and_eq_true, decide_eq_true_eq, Bool.not_eq_true', Bool.and_eq_false_iff, decide_eq_false_iff_not]
  generalize ind (2 ≤ Model.maxRank w r) = I0 at *
  generalize ((need (Model.size w) 0 : ℕ) : ℤ) = R at *
  omega

theorem flag_1 (w : Fin 8 → ℕ) (r s : Fin 8 → BitVec 32) :
    ind (3 ≤ Model.maxRank w r) = ((need (Model.size w) 1 : ℕ) : ℤ) ↔ Model.flag w r s 1 = true := by
  have n := need_or (Model.size w) 1 3 1 rfl rfl
  have i0 := ind_or (3 ≤ Model.maxRank w r)
  simp only [Model.flag, Bool.and_eq_true, decide_eq_true_eq, Bool.not_eq_true', Bool.and_eq_false_iff, decide_eq_false_iff_not]
  generalize ind (3 ≤ Model.maxRank w r) = I0 at *
  generalize ((need (Model.size w) 1 : ℕ) : ℤ) = R at *
  omega

theorem flag_2 (w : Fin 8 → ℕ) (r s : Fin 8 → BitVec 32) :
    ind (4 ≤ Model.maxRank w r) = ((need (Model.size w) 2 : ℕ) : ℤ) ↔ Model.flag w r s 2 = true := by
  have n := need_or (Model.size w) 2 4 1 rfl rfl
  have i0 := ind_or (4 ≤ Model.maxRank w r)
  simp only [Model.flag, Bool.and_eq_true, decide_eq_true_eq, Bool.not_eq_true', Bool.and_eq_false_iff, decide_eq_false_iff_not]
  generalize ind (4 ≤ Model.maxRank w r) = I0 at *
  generalize ((need (Model.size w) 2 : ℕ) : ℤ) = R at *
  omega

theorem flag_3 (w : Fin 8 → ℕ) (r s : Fin 8 → BitVec 32) :
    ind (3 ≤ Model.maxRank w r) - ind (4 ≤ Model.maxRank w r) + ind (2 ≤ Model.atLeast w r 1) - ind (3 ≤ Model.atLeast w r 1) = ((need (Model.size w) 3 : ℕ) : ℤ) ↔ Model.flag w r s 3 = true := by
  have n := need_or (Model.size w) 3 5 2 rfl rfl
  have i0 := ind_or (3 ≤ Model.maxRank w r)
  have i1 := ind_or (4 ≤ Model.maxRank w r)
  have i2 := ind_or (2 ≤ Model.atLeast w r 1)
  have i3 := ind_or (3 ≤ Model.atLeast w r 1)
  simp only [Model.flag, Bool.and_eq_true, decide_eq_true_eq, Bool.not_eq_true', Bool.and_eq_false_iff, decide_eq_false_iff_not]
  generalize ind (3 ≤ Model.maxRank w r) = I0 at *
  generalize ind (4 ≤ Model.maxRank w r) = I1 at *
  generalize ind (2 ≤ Model.atLeast w r 1) = I2 at *
  generalize ind (3 ≤ Model.atLeast w r 1) = I3 at *
  generalize ((need (Model.size w) 3 : ℕ) : ℤ) = R at *
  omega

theorem flag_4 (w : Fin 8 → ℕ) (r s : Fin 8 → BitVec 32) :
    ind (2 ≤ Model.atLeast w r 2) - ind (3 ≤ Model.atLeast w r 2) = ((need (Model.size w) 4 : ℕ) : ℤ) ↔ Model.flag w r s 4 = true := by
  have n := need_or (Model.size w) 4 4 1 rfl rfl
  have i0 := ind_or (2 ≤ Model.atLeast w r 2)
  have i1 := ind_or (3 ≤ Model.atLeast w r 2)
  simp only [Model.flag, Bool.and_eq_true, decide_eq_true_eq, Bool.not_eq_true', Bool.and_eq_false_iff, decide_eq_false_iff_not]
  generalize ind (2 ≤ Model.atLeast w r 2) = I0 at *
  generalize ind (3 ≤ Model.atLeast w r 2) = I1 at *
  generalize ((need (Model.size w) 4 : ℕ) : ℤ) = R at *
  omega

theorem flag_5 (w : Fin 8 → ℕ) (r s : Fin 8 → BitVec 32) :
    ind (5 ≤ Model.maxHits w r) - ind (6 ≤ Model.maxHits w r) + ind (5 ≤ Model.atLeast w r 1) = ((need (Model.size w) 5 : ℕ) : ℤ) ↔ Model.flag w r s 5 = true := by
  have n := need_or (Model.size w) 5 5 2 rfl rfl
  have i0 := ind_or (5 ≤ Model.maxHits w r)
  have i1 := ind_or (6 ≤ Model.maxHits w r)
  have i2 := ind_or (5 ≤ Model.atLeast w r 1)
  simp only [Model.flag, Bool.and_eq_true, decide_eq_true_eq, Bool.not_eq_true', Bool.and_eq_false_iff, decide_eq_false_iff_not]
  generalize ind (5 ≤ Model.maxHits w r) = I0 at *
  generalize ind (6 ≤ Model.maxHits w r) = I1 at *
  generalize ind (5 ≤ Model.atLeast w r 1) = I2 at *
  generalize ((need (Model.size w) 5 : ℕ) : ℤ) = R at *
  omega

theorem flag_6 (w : Fin 8 → ℕ) (r s : Fin 8 → BitVec 32) :
    ind (5 ≤ Model.maxSuit w s) = ((need (Model.size w) 6 : ℕ) : ℤ) ↔ Model.flag w r s 6 = true := by
  have n := need_or (Model.size w) 6 5 1 rfl rfl
  have i0 := ind_or (5 ≤ Model.maxSuit w s)
  simp only [Model.flag, Bool.and_eq_true, decide_eq_true_eq, Bool.not_eq_true', Bool.and_eq_false_iff, decide_eq_false_iff_not]
  generalize ind (5 ≤ Model.maxSuit w s) = I0 at *
  generalize ((need (Model.size w) 6 : ℕ) : ℤ) = R at *
  omega

theorem flag_7 (w : Fin 8 → ℕ) (r s : Fin 8 → BitVec 32) :
    ind (5 ≤ Model.maxSuit w s) + ind (5 ≤ Model.maxHits w r) - ind (6 ≤ Model.maxHits w r) + ind (5 ≤ Model.atLeast w r 1) = ((need (Model.size w) 7 : ℕ) : ℤ) ↔ Model.flag w r s 7 = true := by
  have n := need_or (Model.size w) 7 5 3 rfl rfl
  have i0 := ind_or (5 ≤ Model.maxSuit w s)
  have i1 := ind_or (5 ≤ Model.maxHits w r)
  have i2 := ind_or (6 ≤ Model.maxHits w r)
  have i3 := ind_or (5 ≤ Model.atLeast w r 1)
  simp only [Model.flag, Bool.and_eq_true, decide_eq_true_eq, Bool.not_eq_true', Bool.and_eq_false_iff, decide_eq_false_iff_not]
  generalize ind (5 ≤ Model.maxSuit w s) = I0 at *
  generalize ind (5 ≤ Model.maxHits w r) = I1 at *
  generalize ind (6 ≤ Model.maxHits w r) = I2 at *
  generalize ind (5 ≤ Model.atLeast w r 1) = I3 at *
  generalize ((need (Model.size w) 7 : ℕ) : ℤ) = R at *
  omega

section
variable (w : Fin 8 → ℕ) (r s e : Fin 8 → BitVec 32)

/-- A column's number: the greatest count over its lanes plus the sum over its lanes. -/
def val (c : Fin 32) : ℕ := P w r s e (segLo c) (segN c) (sumLo c) (sumN c)

theorem val_0 : val w r s e 0 = Model.maxRank w r := P_rank w r s e
theorem val_1 : val w r s e 1 = Model.maxSuit w s := P_suit w r s e
theorem val_2 : val w r s e 2 = Model.atLeast w r 1 := P_one w r s e
theorem val_3 : val w r s e 3 = Model.maxHits w r := P_hits w r s e
theorem val_4 : val w r s e 4 = Model.maxRank (Model.rest w) r := P_rank' w r s e
theorem val_5 : val w r s e 5 = Model.maxSuit (Model.rest w) s := P_suit' w r s e
theorem val_6 : val w r s e 6 = Model.atLeast (Model.rest w) r 1 := P_one' w r s e
theorem val_7 : val w r s e 7 = Model.maxHits (Model.rest w) r := P_hits' w r s e
theorem val_8 : val w r s e 8 = Model.maxRank w r := P_rank w r s e
theorem val_9 : val w r s e 9 = Model.maxRank w r := P_rank w r s e
theorem val_10 : val w r s e 10 = Model.maxRank w r := P_rank w r s e
theorem val_11 : val w r s e 11 = Model.maxSuit w s := P_suit w r s e
theorem val_12 : val w r s e 12 = Model.maxHits w r := P_hits w r s e
theorem val_13 : val w r s e 13 = Model.maxHits w r := P_hits w r s e
theorem val_14 : val w r s e 14 = Model.atLeast w r 1 := P_one w r s e
theorem val_15 : val w r s e 15 = Model.atLeast w r 1 := P_one w r s e
theorem val_16 : val w r s e 16 = Model.atLeast w r 1 := P_one w r s e
theorem val_17 : val w r s e 17 = Model.atLeast w r 2 := P_two w r s e
theorem val_18 : val w r s e 18 = Model.atLeast w r 2 := P_two w r s e
theorem val_19 : val w r s e 19 = Model.maxRank (Model.rest w) r := P_rank' w r s e
theorem val_20 : val w r s e 20 = Model.maxRank (Model.rest w) r := P_rank' w r s e
theorem val_21 : val w r s e 21 = Model.maxRank (Model.rest w) r := P_rank' w r s e
theorem val_22 : val w r s e 22 = Model.maxSuit (Model.rest w) s := P_suit' w r s e
theorem val_23 : val w r s e 23 = Model.maxHits (Model.rest w) r := P_hits' w r s e
theorem val_24 : val w r s e 24 = Model.maxHits (Model.rest w) r := P_hits' w r s e
theorem val_25 : val w r s e 25 = Model.atLeast (Model.rest w) r 1 := P_one' w r s e
theorem val_26 : val w r s e 26 = Model.atLeast (Model.rest w) r 1 := P_one' w r s e
theorem val_27 : val w r s e 27 = Model.atLeast (Model.rest w) r 1 := P_one' w r s e
theorem val_28 : val w r s e 28 = Model.atLeast (Model.rest w) r 2 := P_two' w r s e
theorem val_29 : val w r s e 29 = Model.atLeast (Model.rest w) r 2 := P_two' w r s e

/-- The size, then the flag's half. -/
abbrev halfOf (j : Fin 16) : Fin 8 → ℕ := if j.val < 8 then w else Model.rest w

/-- A flag's place in its half. -/
abbrev place (j : Fin 16) : Fin 8 := ⟨j.val % 8, by omega⟩

/-- One flag, given its half, its place and the sum of its tests. -/
theorem flag_step (B : Fin 32 → ℤ) (j : Fin 16) (h : Fin 8 → ℕ) (i : Fin 8) (x : ℤ) (eh : halfOf w j = h)
    (ei : place j = i) (hx : ∑ c, B c * coef c j = x)
    (hf : x = ((need (Model.size h) i : ℕ) : ℤ) ↔ Model.flag h r s i = true) :
    (∑ c, B c * coef c j = ((need (Model.size (halfOf w j)) (place j) : ℕ) : ℤ))
      ↔ Model.flag (halfOf w j) r s (place j) = true := by
  subst eh; subst ei; rw [hx]; exact hf

/-- The sum of a flag's tests equals what it needs exactly if the flag is set. -/
theorem flag_iff (B : Fin 32 → ℤ) (hB : ∀ c, 0 < thr c → B c = ind (thr c ≤ val w r s e c)) (j : Fin 16) :
    (∑ c, B c * coef c j = ((need (Model.size (halfOf w j)) (place j) : ℕ) : ℤ))
      ↔ Model.flag (halfOf w j) r s (place j) = true := by
  have b8 : B 8 = ind (2 ≤ Model.maxRank w r) := (hB 8 (by decide)).trans (by rw [val_8]; rfl)
  have b9 : B 9 = ind (3 ≤ Model.maxRank w r) := (hB 9 (by decide)).trans (by rw [val_9]; rfl)
  have b10 : B 10 = ind (4 ≤ Model.maxRank w r) := (hB 10 (by decide)).trans (by rw [val_10]; rfl)
  have b11 : B 11 = ind (5 ≤ Model.maxSuit w s) := (hB 11 (by decide)).trans (by rw [val_11]; rfl)
  have b12 : B 12 = ind (5 ≤ Model.maxHits w r) := (hB 12 (by decide)).trans (by rw [val_12]; rfl)
  have b13 : B 13 = ind (6 ≤ Model.maxHits w r) := (hB 13 (by decide)).trans (by rw [val_13]; rfl)
  have b14 : B 14 = ind (2 ≤ Model.atLeast w r 1) := (hB 14 (by decide)).trans (by rw [val_14]; rfl)
  have b15 : B 15 = ind (3 ≤ Model.atLeast w r 1) := (hB 15 (by decide)).trans (by rw [val_15]; rfl)
  have b16 : B 16 = ind (5 ≤ Model.atLeast w r 1) := (hB 16 (by decide)).trans (by rw [val_16]; rfl)
  have b17 : B 17 = ind (2 ≤ Model.atLeast w r 2) := (hB 17 (by decide)).trans (by rw [val_17]; rfl)
  have b18 : B 18 = ind (3 ≤ Model.atLeast w r 2) := (hB 18 (by decide)).trans (by rw [val_18]; rfl)
  have b19 : B 19 = ind (2 ≤ Model.maxRank (Model.rest w) r) := (hB 19 (by decide)).trans (by rw [val_19]; rfl)
  have b20 : B 20 = ind (3 ≤ Model.maxRank (Model.rest w) r) := (hB 20 (by decide)).trans (by rw [val_20]; rfl)
  have b21 : B 21 = ind (4 ≤ Model.maxRank (Model.rest w) r) := (hB 21 (by decide)).trans (by rw [val_21]; rfl)
  have b22 : B 22 = ind (5 ≤ Model.maxSuit (Model.rest w) s) := (hB 22 (by decide)).trans (by rw [val_22]; rfl)
  have b23 : B 23 = ind (5 ≤ Model.maxHits (Model.rest w) r) := (hB 23 (by decide)).trans (by rw [val_23]; rfl)
  have b24 : B 24 = ind (6 ≤ Model.maxHits (Model.rest w) r) := (hB 24 (by decide)).trans (by rw [val_24]; rfl)
  have b25 : B 25 = ind (2 ≤ Model.atLeast (Model.rest w) r 1) := (hB 25 (by decide)).trans (by rw [val_25]; rfl)
  have b26 : B 26 = ind (3 ≤ Model.atLeast (Model.rest w) r 1) := (hB 26 (by decide)).trans (by rw [val_26]; rfl)
  have b27 : B 27 = ind (5 ≤ Model.atLeast (Model.rest w) r 1) := (hB 27 (by decide)).trans (by rw [val_27]; rfl)
  have b28 : B 28 = ind (2 ≤ Model.atLeast (Model.rest w) r 2) := (hB 28 (by decide)).trans (by rw [val_28]; rfl)
  have b29 : B 29 = ind (3 ≤ Model.atLeast (Model.rest w) r 2) := (hB 29 (by decide)).trans (by rw [val_29]; rfl)
  obtain ⟨j, hj⟩ := j
  interval_cases j
  · exact flag_step w r s B 0 _ _ _ (if_pos (by decide)) rfl (by rw [coef_0, b8]) (flag_0 w r s)
  · exact flag_step w r s B 1 _ _ _ (if_pos (by decide)) rfl (by rw [coef_1, b9]) (flag_1 w r s)
  · exact flag_step w r s B 2 _ _ _ (if_pos (by decide)) rfl (by rw [coef_2, b10]) (flag_2 w r s)
  · exact flag_step w r s B 3 _ _ _ (if_pos (by decide)) rfl (by rw [coef_3, b9, b10, b14, b15]) (flag_3 w r s)
  · exact flag_step w r s B 4 _ _ _ (if_pos (by decide)) rfl (by rw [coef_4, b17, b18]) (flag_4 w r s)
  · exact flag_step w r s B 5 _ _ _ (if_pos (by decide)) rfl (by rw [coef_5, b12, b13, b16]) (flag_5 w r s)
  · exact flag_step w r s B 6 _ _ _ (if_pos (by decide)) rfl (by rw [coef_6, b11]) (flag_6 w r s)
  · exact flag_step w r s B 7 _ _ _ (if_pos (by decide)) rfl (by rw [coef_7, b11, b12, b13, b16]) (flag_7 w r s)
  · exact flag_step w r s B 8 _ _ _ (if_neg (by decide)) rfl (by rw [coef_8, b19]) (flag_0 (Model.rest w) r s)
  · exact flag_step w r s B 9 _ _ _ (if_neg (by decide)) rfl (by rw [coef_9, b20]) (flag_1 (Model.rest w) r s)
  · exact flag_step w r s B 10 _ _ _ (if_neg (by decide)) rfl (by rw [coef_10, b21]) (flag_2 (Model.rest w) r s)
  · exact flag_step w r s B 11 _ _ _ (if_neg (by decide)) rfl (by rw [coef_11, b20, b21, b25, b26]) (flag_3 (Model.rest w) r s)
  · exact flag_step w r s B 12 _ _ _ (if_neg (by decide)) rfl (by rw [coef_12, b28, b29]) (flag_4 (Model.rest w) r s)
  · exact flag_step w r s B 13 _ _ _ (if_neg (by decide)) rfl (by rw [coef_13, b23, b24, b27]) (flag_5 (Model.rest w) r s)
  · exact flag_step w r s B 14 _ _ _ (if_neg (by decide)) rfl (by rw [coef_14, b22]) (flag_6 (Model.rest w) r s)
  · exact flag_step w r s B 15 _ _ _ (if_neg (by decide)) rfl (by rw [coef_15, b22, b23, b24, b27]) (flag_7 (Model.rest w) r s)

/-- The two halves' metadata, one after the other. -/
def both (k : Fin 66) : ℕ :=
  if h : k.val < 33 then Model.md w r s ⟨k.val, h⟩ else Model.md (Model.rest w) r s ⟨k.val - 33, by omega⟩

/-- The metadata in the kernel's order. -/
def ordered (x : Fin 66) : ℕ :=
  if h : x.val < 40 then lane w r s e ⟨x.val, by omega⟩
  else if h : x.val - 40 < 16 then (Model.flag (halfOf w ⟨x.val - 40, h⟩) r s (place ⟨x.val - 40, h⟩)).toNat
  else if h : x.val - 40 - 16 < 8 then val w r s e ⟨x.val - 40 - 16, by omega⟩
  else if x.val - 40 - 16 - 8 = 0 then Model.size w else Model.size (Model.rest w)

theorem md_flag (w : Fin 8 → ℕ) (j : Fin 8) (k : Fin 33) (hk : k.val = j.val) : Model.md w r s k = (Model.flag w r s j).toNat := by
  unfold Model.md
  rw [dif_pos (by omega)]
  exact congrArg (fun t => (Model.flag w r s t).toNat) (Fin.ext hk)

theorem md_extra (w : Fin 8 → ℕ) (j : Fin 5) (k : Fin 33) (hk : k.val = 8 + j.val) : Model.md w r s k = Model.extra w r s j := by
  unfold Model.md
  rw [dif_neg (by omega), dif_pos (by omega)]
  exact congrArg (Model.extra w r s) (Fin.ext (by simp; omega))

theorem md_rank (w : Fin 8 → ℕ) (j : Fin 14) (k : Fin 33) (hk : k.val = 13 + j.val) : Model.md w r s k = Model.cnt 14 w r j := by
  unfold Model.md
  rw [dif_neg (by omega), dif_neg (by omega), dif_pos (by omega)]
  exact congrArg (Model.cnt 14 w r) (Fin.ext (by simp; omega))

theorem md_suit (w : Fin 8 → ℕ) (j : Fin 6) (k : Fin 33) (hk : k.val = 27 + j.val) : Model.md w r s k = Model.cnt 6 w s j := by
  unfold Model.md
  rw [dif_neg (by omega), dif_neg (by omega), dif_neg (by omega)]
  exact congrArg (Model.cnt 6 w s) (Fin.ext (by simp; omega))

/-- The kernel's order is a permutation of the metadata. -/
theorem ordered_eq (x : Fin 66) : ordered w r s e x = both w r s (perm x) := by
  have hx := x.isLt
  unfold ordered
  by_cases h1 : x.val < 40
  · rw [dif_pos h1]
    by_cases a1 : x.val < 20
    · have hp : perm x = ⟨13 + x.val, by omega⟩ := by unfold perm; rw [dif_pos a1]
      rw [hp]; unfold both
      rw [dif_pos (by simp; omega)]
      by_cases a2 : x.val < 14
      · rw [md_rank r s w ⟨x.val, a2⟩ _ rfl, ← lane_rank w r s e]
        exact congrArg (lane w r s e) (Fin.ext (by simp))
      · rw [md_suit r s w ⟨x.val - 14, by omega⟩ _ (by simp; omega), ← lane_suit w r s e]
        exact congrArg (lane w r s e) (Fin.ext (by simp; omega))
    · have hp : perm x = ⟨26 + x.val, by omega⟩ := by unfold perm; rw [dif_neg a1, dif_pos h1]
      rw [hp]; unfold both
      rw [dif_neg (by simp; omega)]
      by_cases a2 : x.val < 34
      · rw [md_rank r s _ ⟨x.val - 20, by omega⟩ _ (by simp; omega), ← lane_rank' w r s e]
        exact congrArg (lane w r s e) (Fin.ext (by simp; omega))
      · rw [md_suit r s _ ⟨x.val - 34, by omega⟩ _ (by simp; omega), ← lane_suit' w r s e]
        exact congrArg (lane w r s e) (Fin.ext (by simp; omega))
  rw [dif_neg h1]
  by_cases h2 : x.val - 40 < 16
  · rw [dif_pos h2]
    by_cases a1 : x.val < 48
    · have hp : perm x = ⟨x.val - 40, by omega⟩ := by
        unfold perm; rw [dif_neg (by omega), dif_neg h1, dif_pos a1]
      rw [hp]; unfold both halfOf
      rw [dif_pos (by simp; omega), if_pos (by simp; omega)]
      exact (md_flag r s w _ _ (by simp; omega)).symm
    · have hp : perm x = ⟨x.val - 15, by omega⟩ := by
        unfold perm; rw [dif_neg (by omega), dif_neg h1, dif_neg a1, dif_pos (by omega)]
      rw [hp]; unfold both halfOf
      rw [dif_neg (by simp; omega), if_neg (by simp; omega)]
      exact (md_flag r s _ _ _ (by simp; omega)).symm
  rw [dif_neg h2]
  have hv : x.val = 56 ∨ x.val = 57 ∨ x.val = 58 ∨ x.val = 59 ∨ x.val = 60 ∨ x.val = 61 ∨ x.val = 62 ∨ x.val = 63
      ∨ x.val = 64 ∨ x.val = 65 := by omega
  obtain ⟨x, hx⟩ := x
  simp only at hv
  rcases hv with rfl | rfl | rfl | rfl | rfl | rfl | rfl | rfl | rfl | rfl
  · exact (val_0 w r s e).trans (md_extra r s w 0 8 rfl).symm
  · exact (val_1 w r s e).trans (md_extra r s w 1 9 rfl).symm
  · exact (val_2 w r s e).trans (md_extra r s w 2 10 rfl).symm
  · exact (val_3 w r s e).trans (md_extra r s w 3 11 rfl).symm
  · exact (val_4 w r s e).trans (md_extra r s (Model.rest w) 0 8 rfl).symm
  · exact (val_5 w r s e).trans (md_extra r s (Model.rest w) 1 9 rfl).symm
  · exact (val_6 w r s e).trans (md_extra r s (Model.rest w) 2 10 rfl).symm
  · exact (val_7 w r s e).trans (md_extra r s (Model.rest w) 3 11 rfl).symm
  · exact (md_extra r s w 4 12 rfl).symm
  · exact (md_extra r s (Model.rest w) 4 12 rfl).symm

end

end Cert.Flags

end
-- ==== Proof.KerMeta.lean ====
module

public import proofs.«01_k».proof.Proof.KerLanes
public import proofs.«01_k».proof.Proof.Flags

@[expose] public section

set_option maxRecDepth 16384

/-! What the kernel's body makes of the lanes: the greatest counts, the tests, the flags, and the first layer's input. -/

noncomputable section

namespace Cert.KerMeta

open Idealize.ShloMosaic Cert.KernelIdeal Cert.KernelIdeal.Gen Cert.Lanes Cert.Flags Cert.Tables

/-- The named reciprocal of the logarithm of 2. -/
theorem rlog2 : Named.named (F := Ideal) κ "rlog2" (φ := .f32) 0x3FB8AA3B#32 = (((Real.log 2)⁻¹ : ℝ) : EReal) :=
  IdealRules.named_const.ideal_named_scalar _ _ _ _ rfl

/-- A test as a number. -/
theorem test_cast {p q : Prop} [Decidable p] [Decidable q] (h : p ↔ q) :
    (((decide p).toNat : ℕ) : EReal) = ((if q then 1 else 0 : ℕ) : EReal) := by
  by_cases hq : q
  · rw [if_pos hq, decide_eq_true (h.2 hq)]; rfl
  · rw [if_neg hq, decide_eq_false (fun t => hq (h.1 t))]; rfl

section
variable (v16 : FVec Ideal S128x14 .bf16) (v26 : FVec Ideal S128x6 .bf16) (v40 : FVec Ideal S128x16 .bf16)
  (v44 : FVec Ideal S128x128 .bf16) (cst_10 : Ideal .bf16) (v50 : Vec Ideal S3584x256 .bf16)

/-- The greatest count over the lanes of column `c`. -/
theorem pay12_at (v57 : Vec Ideal S128x32 .bf16) (v59 : Vec Ideal S1x32 .f32) (i : Fin 3584) (c : Fin 32) (L : Fin 128 → ℕ)
    (lo n : ℕ) (h11 : ∀ x, (k0_pay11 v16 v26 v40 v44 cst_10 v50 (ix2 i x) : EReal) = ((L x : ℕ) : EReal))
    (h57 : ∀ x : Fin 128, (v57 (ix2 x c) : EReal) = ((if lo ≤ x.val ∧ x.val < lo + n then 1 else 0 : ℕ) : EReal))
    (h59 : (v59 (ix2 0 c) : EReal) = ((n : ℕ) : EReal)) (hn : lo + n ≤ 128)
    (h13 : ((Finset.univ.filter fun l : Fin 128 => lo ≤ l.val ∧ l.val < lo + n).filter fun l => L l ≠ 0).card ≤ 13) :
    (k0_pay12 v16 v26 v40 v44 cst_10 v50 v57 v59 (ix2 i c) : EReal)
      = (((Finset.univ.filter fun l : Fin 128 => lo ≤ l.val ∧ l.val < lo + n).sup L : ℕ) : EReal) := by
  rw [← KerLanes.greatest L lo n hn h13]
  unfold k0_pay12
  generalize k0_pay11 v16 v26 v40 v44 cst_10 v50 = v52 at h11 ⊢
  pointwise
  rw [rlog2, Cast.bits_quarter, Cast.bits_nudge, h59]
  simp only [h11, h57, KerLanes.exp2_nat]

/-- The lanes, their positive counts, their counts from two. -/
theorem pay14_at (i : Fin 3584) (c : Fin 384) (w : Fin 8 → ℕ) (r s e : Fin 8 → BitVec 32)
    (h11 : ∀ x, (k0_pay11 v16 v26 v40 v44 cst_10 v50 (ix2 i x) : EReal) = ((lane w r s e x : ℕ) : EReal)) :
    (k0_pay14 v16 v26 v40 v44 cst_10 v50 (ix2 i c) : EReal) = ((wide w r s e c : ℕ) : EReal) := by
  unfold k0_pay14 k0_pay13 wide
  generalize k0_pay11 v16 v26 v40 v44 cst_10 v50 = v52 at h11 ⊢
  pointwise
  split
  · exact h11 _
  split
  · rw [Cast.sitofp_bool]
    exact test_cast (by rw [h11]; exact Cast.cast_pos _)
  · rw [Cast.sitofp_bool]
    exact test_cast ((iff_of_eq (congr (congrArg (fun a b : EReal => a ≤ b) Cast.bits_two) (h11 _))).trans (Cast.cast_le _ _))

/-- The lanes of the counts. -/
theorem pay13_at (i : Fin 3584) (c : Fin 128) (n : ℕ)
    (h11 : (k0_pay11 v16 v26 v40 v44 cst_10 v50 (ix2 i c) : EReal) = ((n : ℕ) : EReal)) :
    (k0_pay13 v16 v26 v40 v44 cst_10 v50 (ix2 i c) : EReal) = ((n : ℕ) : EReal) := by
  unfold k0_pay13
  generalize k0_pay11 v16 v26 v40 v44 cst_10 v50 = v52 at h11 ⊢
  pointwise
  exact h11

end

/-- A column's range lies in the lanes, and is one of the six or empty. -/
theorem seg_ok : ∀ c : Fin 32, segLo c + segN c ≤ 128 ∧ ((segLo c = 0 ∧ segN c = 14) ∨ (segLo c = 20 ∧ segN c = 14) ∨ (segLo c = 14 ∧ segN c = 6)
    ∨ (segLo c = 34 ∧ segN c = 6) ∨ (segLo c = 40 ∧ segN c = 16) ∨ (segLo c = 56 ∧ segN c = 16) ∨ segN c = 0) := by
  decide +kernel

/-- A column's greatest count plus its sum. -/
theorem total (w : Fin 8 → ℕ) (r s e : Fin 8 → BitVec 32) (c : Fin 32) (g z : EReal) (W p : Fin 384 → EReal)
    (hg : g = (((Finset.univ.filter fun l : Fin 128 => segLo c ≤ l.val ∧ l.val < segLo c + segN c).sup (lane w r s e) : ℕ) : EReal))
    (hz : z = 0) (hW : ∀ x, W x = ((wide w r s e x : ℕ) : EReal))
    (hp : ∀ x : Fin 384, p x = ((if sumLo c ≤ x.val ∧ x.val < sumLo c + sumN c then 1 else 0 : ℕ) : EReal)) :
    g + (z + ∑ x, W x * p x) = ((val w r s e c : ℕ) : EReal) := by
  subst hz
  rw [hg, zero_add, Finset.sum_congr rfl fun x _ => by rw [hW, hp], Cast.cast_dot, ← Nat.cast_add]
  unfold val P
  refine congrArg (fun t : ℕ => ((_ + t : ℕ) : EReal)) ?_
  exact Finset.sum_congr rfl fun x _ => by split <;> simp

/-- A sum of products of numbers and integers. -/
theorem cast_int_dot {ι : Type} (s : Finset ι) (f : ι → ℕ) (g : ι → ℤ) :
    (∑ i ∈ s, ((f i : ℕ) : EReal) * (((g i : ℤ) : ℝ) : EReal)) = (((∑ i ∈ s, (f i : ℤ) * g i : ℤ) : ℝ) : EReal) := by
  classical
  induction s using Finset.induction_on with
  | empty => simp
  | insert a s h ih =>
    rw [Finset.sum_insert h, Finset.sum_insert h, ih, ← EReal.coe_coe_eq_natCast, ← EReal.coe_mul, ← EReal.coe_add]
    congr 1
    push_cast
    rfl

/-- An integer is a number. -/
theorem int_eq_nat (z : ℤ) (n : ℕ) : ((((z : ℤ) : ℝ) : EReal) = ((n : ℕ) : EReal)) ↔ z = (n : ℤ) := by
  rw [← EReal.coe_coe_eq_natCast, EReal.coe_eq_coe_iff]
  constructor
  · intro h; exact_mod_cast h
  · intro h; exact_mod_cast h

/-- A row of the first layer's left operand, by what it is made of. -/
def feed (ln : Fin 128 → EReal) (tot tlo : Fin 32 → EReal) (cf : Fin 32 → Fin 16 → EReal) (nr : Fin 16 → EReal)
    (sz : Fin 2 → EReal) (ab : Fin 16 → EReal) (x : Fin 82) : EReal :=
  if h : x.val < 40 then ln ⟨x.val, by omega⟩
  else if h : x.val - 40 < 16 then FloatOps.sitofp (F := Ideal) .f32 (BitVec.setWidth 32 (BitVec.ofBool (decide
    ((∑ c, FloatOps.sitofp (F := Ideal) .f32 (BitVec.setWidth 32 (BitVec.ofBool (decide (tlo c ≤ tot c)))) * cf c ⟨x.val - 40, h⟩) = nr ⟨x.val - 40, h⟩))))
  else if h : x.val - 40 - 16 < 8 then tot ⟨x.val - 40 - 16, by omega⟩
  else if h : x.val - 40 - 16 - 8 < 2 then sz ⟨x.val - 40 - 16 - 8, h⟩
  else ab ⟨x.val - 40 - 16 - 8 - 2, by omega⟩

section
variable (w : Fin 8 → ℕ) (r s e : Fin 8 → BitVec 32)
  (ln : Fin 128 → EReal) (tot tlo : Fin 32 → EReal) (cf : Fin 32 → Fin 16 → EReal) (nr : Fin 16 → EReal)
  (sz : Fin 2 → EReal) (ab : Fin 16 → EReal)

/-- The row's first 66 entries are the metadata in the kernel's order. -/
theorem feed_lo (hln : ∀ x, ln x = ((lane w r s e x : ℕ) : EReal)) (htot : ∀ c, tot c = ((val w r s e c : ℕ) : EReal))
    (htlo : ∀ c, 0 < thr c → tlo c = ((thr c : ℕ) : EReal)) (hcf : ∀ c j, cf c j = (((coef c j : ℤ) : ℝ) : EReal))
    (hnr : ∀ j, nr j = ((need (Model.size (halfOf w j)) (place j) : ℕ) : EReal))
    (hs0 : sz 0 = ((Model.size w : ℕ) : EReal)) (hs1 : sz 1 = ((Model.size (Model.rest w) : ℕ) : EReal)) (x : Fin 66) :
    feed ln tot tlo cf nr sz ab ⟨x.val, by omega⟩ = ((both w r s (perm x) : ℕ) : EReal) := by
  rw [← ordered_eq w r s e x]
  unfold feed ordered
  by_cases h1 : x.val < 40
  · rw [dif_pos h1, dif_pos h1]; exact hln _
  rw [dif_neg h1, dif_neg h1]
  by_cases h2 : x.val - 40 < 16
  · rw [dif_pos h2, dif_pos h2, Cast.sitofp_bool]
    congr 2
    have hb := flag_iff w r s e (fun c => ((decide (tlo c ≤ tot c)).toNat : ℤ)) (fun c hc => by
      rw [htlo c hc, htot c]
      simp only [Cast.cast_le, ind]
      split <;> rename_i h <;> simp [h]) ⟨x.val - 40, h2⟩
    rw [Bool.eq_iff_iff, decide_eq_true_eq, ← hb, hnr, ← int_eq_nat, ← cast_int_dot]
    simp only [Cast.sitofp_bool, hcf]
  rw [dif_neg h2, dif_neg h2]
  by_cases h3 : x.val - 40 - 16 < 8
  · rw [dif_pos h3, dif_pos h3]; exact htot _
  rw [dif_neg h3, dif_neg h3, dif_pos (show x.val - 40 - 16 - 8 < 2 by have := x.isLt; omega)]
  by_cases h4 : x.val - 40 - 16 - 8 = 0
  · rw [if_pos h4, ← hs0]; exact congrArg sz (Fin.ext h4)
  · rw [if_neg h4, ← hs1]; exact congrArg sz (Fin.ext (by have := x.isLt; show x.val - 40 - 16 - 8 = 1; omega))

/-- The row's last 16 entries pick the hand. -/
theorem feed_hi (x : Fin 16) : feed ln tot tlo cf nr sz ab ⟨66 + x.val, by omega⟩ = ab x := by
  unfold feed
  rw [dif_neg (by simp; omega), dif_neg (by simp; omega), dif_neg (by simp; omega), dif_neg (by simp; omega)]
  exact congrArg ab (Fin.ext (by simp; omega))

end

section
variable (v71 : FVec Ideal S3584x32 .f32) (v72 : FVec Ideal S3584x128 .bf16) (v83 : FVec Ideal S3584x384 .bf16)
  (v84 : Vec Ideal S384x32 .bf16) (cst_30 : FVec Ideal S3584x32 .f32) (v87 : Vec Ideal S1x32 .f32) (v93 : Vec Ideal S32x16 .bf16)
  (v95 : Vec Ideal S3584x16 .f32) (v104 : Vec Ideal S3584x2 .bf16) (v106 : Vec Ideal S3584x16 .bf16) (v109 : Vec Ideal S16x128 .bf16)
  (v111 : Vec Ideal S128x512 .bf16) (v114 : Vec Ideal S1x512 .f32) (v119 : Vec Ideal S66x512 .bf16)

/-- The first layer as one sum over the row. -/
theorem pay15_sum (i : Fin 3584) (j : Fin 512) :
    (k0_pay15 v71 v72 v83 v84 cst_30 v87 v93 v95 v104 v106 v109 v111 v114 v119 (ix2 i j) : EReal)
      = ∑ x : Fin 82, feed (fun x => v72 (ix2 i x)) (fun c => v71 (ix2 i c) + (cst_30 (ix2 i c) + ∑ x, v83 (ix2 i x) * v84 (ix2 x c)))
          (fun c => v87 (ix2 0 c)) (fun c j => v93 (ix2 c j)) (fun j => v95 (ix2 i j)) (fun j => v104 (ix2 i j)) (fun x => v106 (ix2 i x)) x
        * (if h : x.val < 66 then (v119 (ix2 ⟨x.val, h⟩ j) : EReal)
            else (∑ k, (v109 (ix2 ⟨x.val - 66, by omega⟩ k) : EReal) * (v111 (ix2 k j) : EReal)) + (v114 (ix2 0 j) : EReal)) := by
  unfold k0_pay15 feed
  pointwise

/-- The first layer: the metadata through its weights, plus the hand's features through theirs and the offset. -/
theorem pay15_at (i : Fin 3584) (j : Fin 512) (b : Fin 16) (w : Fin 8 → ℕ) (r s e : Fin 8 → BitVec 32)
    (h72 : ∀ x, (v72 (ix2 i x) : EReal) = ((lane w r s e x : ℕ) : EReal))
    (htot : ∀ c, (v71 (ix2 i c) + (cst_30 (ix2 i c) + ∑ x, v83 (ix2 i x) * v84 (ix2 x c)) : EReal) = ((val w r s e c : ℕ) : EReal))
    (h87 : ∀ c, 0 < thr c → (v87 (ix2 0 c) : EReal) = ((thr c : ℕ) : EReal))
    (h93 : ∀ c j, (v93 (ix2 c j) : EReal) = (((coef c j : ℤ) : ℝ) : EReal))
    (h95 : ∀ j, (v95 (ix2 i j) : EReal) = ((need (Model.size (halfOf w j)) (place j) : ℕ) : EReal))
    (hs0 : (v104 (ix2 i 0) : EReal) = ((Model.size w : ℕ) : EReal))
    (hs1 : (v104 (ix2 i 1) : EReal) = ((Model.size (Model.rest w) : ℕ) : EReal))
    (h106 : ∀ x, (v106 (ix2 i x) : EReal) = if x = b then 1 else 0) :
    (k0_pay15 v71 v72 v83 v84 cst_30 v87 v93 v95 v104 v106 v109 v111 v114 v119 (ix2 i j) : EReal)
      = (∑ x : Fin 66, ((both w r s (perm x) : ℕ) : EReal) * (v119 (ix2 x j) : EReal))
        + ((∑ k, (v109 (ix2 b k) : EReal) * (v111 (ix2 k j) : EReal)) + (v114 (ix2 0 j) : EReal)) := by
  rw [pay15_sum]
  refine (Fin.sum_univ_add (a := 66) (b := 16) _).trans ?_
  refine congr (congrArg _ (Finset.sum_congr rfl fun x _ => ?_)) ?_
  · refine congr (congrArg _ (feed_lo w r s e _ _ _ _ _ _ _ h72 htot h87 h93 h95 hs0 hs1 x)) ?_
    exact dif_pos x.isLt
  · have e : ∀ x : Fin 16, feed (fun x => v72 (ix2 i x)) (fun c => v71 (ix2 i c) + (cst_30 (ix2 i c) + ∑ x, v83 (ix2 i x) * v84 (ix2 x c)))
          (fun c => v87 (ix2 0 c)) (fun c j => v93 (ix2 c j)) (fun j => v95 (ix2 i j)) (fun j => v104 (ix2 i j)) (fun x => v106 (ix2 i x))
            ⟨66 + x.val, by omega⟩
        * (if h : 66 + x.val < 66 then (v119 (ix2 ⟨66 + x.val, h⟩ j) : EReal)
            else (∑ k, (v109 (ix2 ⟨66 + x.val - 66, by omega⟩ k) : EReal) * (v111 (ix2 k j) : EReal)) + (v114 (ix2 0 j) : EReal))
        = if x = b then (∑ k, (v109 (ix2 x k) : EReal) * (v111 (ix2 k j) : EReal)) + (v114 (ix2 0 j) : EReal) else 0 := fun x => by
      rw [feed_hi, h106, dif_neg (by omega)]
      have hx : (⟨66 + x.val - 66, by omega⟩ : Fin 16) = x := Fin.ext (by simp)
      rw [hx]
      split
      · rw [one_mul]
      · rw [zero_mul]
    refine (Finset.sum_congr rfl fun x _ => e x).trans ?_
    rw [Finset.sum_ite_eq' Finset.univ b]
    simp

end

end Cert.KerMeta

end
-- ==== Proof.Goal.lean ====
module

public import proofs.«01_k».proof.Proof.Tables

@[expose] public section

/-! The two result arrays as functions of the argument arrays. -/

noncomputable section

namespace Cert.Goal

open Idealize.ShloMosaic Cert.Tables

/-- A table of words. -/
abbrev IMat (K N : ℕ) := IVec ⟨2, ![K, N]⟩ 32
/-- A matrix. -/
abbrev Mat (K N : ℕ) := FVec Ideal ⟨2, ![K, N]⟩ .f32
/-- A vector. -/
abbrev Vect (N : ℕ) := FVec Ideal ⟨1, ![N]⟩ .f32

/-- A table's row. -/
def words {K N : ℕ} (X : IMat K N) (b : Fin K) : Fin N → BitVec 32 := fun h => X (ix2 b h)
/-- A matrix by its two indices. -/
def mat {K N : ℕ} (W : Mat K N) (k : Fin K) (j : Fin N) : EReal := W (ix2 k j)
/-- A vector by its index. -/
def vec {N : ℕ} (W : Vect N) (j : Fin N) : EReal := W (ix1 j)

/-- The row of the network for a hand and a play. -/
def row (flat : Mat 1024 128) (r s : IMat 1024 8) (b : Fin 1024) (m : Fin 218) : Fin 194 → EReal :=
  Model.row (mat flat b) (mask m) (words r b) (words s b)

/-- Whether the play is valid for the hand. -/
def valid (r s e : IMat 1024 8) (b : Fin 1024) (m : Fin 218) : Bool :=
  decide (Model.invalid (mask m) (words r b) (words s b) (words e b) = 0)

/-- The logits. -/
def logits (flat : Mat 1024 128) (r s e : IMat 1024 8) (W0 : Mat 194 256) (b0 : Vect 256) (W1 : Mat 256 128) (b1 : Vect 128)
    (W2 : Mat 128 64) (b2 : Vect 64) (W3 : Mat 64 1) (b3 : Vect 1) (b : Fin 1024) (m : Fin 218) : EReal :=
  if valid r s e b m then
    Model.logit (row flat r s b m) (mat W0) (vec b0) (mat W1) (vec b1) (mat W2) (vec b2) (mat W3) (vec b3)
  else Model.low

/-- The auxiliary values. -/
def aux (flat : Mat 1024 128) (r s e : IMat 1024 8) (W0 : Mat 194 256) (b0 : Vect 256) (W1 : Mat 256 128) (b1 : Vect 128)
    (W2 : Mat 128 1) (b2 : Vect 1) (b : Fin 1024) (m : Fin 218) : EReal :=
  if valid r s e b m then Model.aux (row flat r s b m) (mat W0) (vec b0) (mat W1) (vec b1) (mat W2) (vec b2) else 0

end Cert.Goal

end
-- ==== Proof.KerNet.lean ====
module

public import proofs.«01_k».proof.Proof.KerMeta
public import proofs.«01_k».proof.Proof.Goal

@[expose] public section

set_option maxRecDepth 16384

/-! The kernel's network: both heads at once, with the weights scaled, gives the plain layers. -/

noncomputable section

namespace Cert.KerNet

open Idealize.ShloMosaic Cert.KernelIdeal Cert.KernelIdeal.Gen Cert.Flags Cert.Tables

/-- The named constant 1/(2c). -/
theorem half_over_c : Named.named (F := Ideal) κ "half_over_c" (φ := .bf16) 0x3F35#16 = ((8388608 / 11863283 : ℝ) : EReal) :=
  IdealRules.named_const.ideal_named_scalar _ _ _ _ rfl

theorem c2_nonneg : (0 : EReal) ≤ Model.c2 := by
  rw [Cast.bits_c2]; exact_mod_cast (by norm_num : (0 : ℝ) ≤ 11863283 / 16777216)

theorem c2_ne_top : Model.c2 ≠ ⊤ := by rw [Cast.bits_c2]; exact EReal.coe_ne_top _

/-- A sum times the scale. -/
theorem sum_scale {ι : Type} (s : Finset ι) (f : ι → EReal) : (∑ i ∈ s, f i * Model.c2) = (∑ i ∈ s, f i) * Model.c2 := by
  classical
  induction s using Finset.induction_on with
  | empty => simp
  | insert a s h ih => rw [Finset.sum_insert h, Finset.sum_insert h, ih, EReal.right_distrib_of_nonneg_of_ne_top c2_nonneg c2_ne_top]

/-- A dense layer with scaled weights and offset gives the scaled value. -/
theorem dense_scale {K N : ℕ} (x : Fin K → EReal) (W : Fin K → Fin N → EReal) (b : Fin N → EReal) (j : Fin N) :
    (∑ k, x k * (W k j * Model.c2)) + b j * Model.c2 = Model.dense x W b j * Model.c2 := by
  unfold Model.dense
  rw [EReal.right_distrib_of_nonneg_of_ne_top c2_nonneg c2_ne_top, ← sum_scale]
  congr 1
  exact Finset.sum_congr rfl fun k _ => (mul_assoc _ _ _).symm

/-- The kernel's activation. -/
def act (t : EReal) : EReal :=
  t * Named.named (F := Ideal) κ "half_over_c" (φ := .bf16) 0x3F35#16 * (1 + FloatOps.erf (F := Ideal) (φ := .bf16) t)

/-- The kernel's activation of the scaled value. -/
theorem act_scale (x : EReal) : act (x * Model.c2) = Model.gelu x := by
  unfold act Model.gelu
  rw [half_over_c, EReal.neg_mul, Ideal.erfc_neg]
  congr 1
  rw [Cast.bits_half, Cast.bits_c2, mul_assoc, ← EReal.coe_mul, mul_comm]
  congr 2
  norm_num

/-- A sum whose second part vanishes. -/
theorem sum_first {n m : ℕ} (f : Fin (n + m) → EReal) (h : ∀ k : Fin m, f (Fin.natAdd n k) = 0) :
    ∑ k, f k = ∑ k : Fin n, f (Fin.castAdd m k) := by
  rw [Fin.sum_univ_add, Finset.sum_eq_zero (s := Finset.univ) (f := fun k => f (Fin.natAdd n k)) fun k _ => h k, add_zero]

/-- A sum whose first part vanishes. -/
theorem sum_second {n m : ℕ} (f : Fin (n + m) → EReal) (h : ∀ k : Fin n, f (Fin.castAdd m k) = 0) :
    ∑ k, f k = ∑ k : Fin m, f (Fin.natAdd n k) := by
  rw [Fin.sum_univ_add, Finset.sum_eq_zero (s := Finset.univ) (f := fun k => f (Fin.castAdd m k)) fun k _ => h k, zero_add]

/-- The two halves' metadata are the row's entries from 128. -/
theorem row_meta (flat : Fin 128 → EReal) (w : Fin 8 → ℕ) (r s : Fin 8 → BitVec 32) (y : Fin 66) :
    Model.row flat w r s ⟨128 + y.val, by omega⟩ = ((both w r s y : ℕ) : EReal) := by
  have hy := y.isLt
  unfold Model.row both
  rw [dif_neg (by simp)]
  by_cases h : y.val < 33
  · rw [dif_pos (by simp; omega), dif_pos h]
    exact congrArg (fun t => ((Model.md w r s t : ℕ) : EReal)) (Fin.ext (by simp))
  · rw [dif_neg (by simp; omega), dif_neg h]
    exact congrArg (fun t => ((Model.md (Model.rest w) r s t : ℕ) : EReal)) (Fin.ext (by simp; omega))

/-- The hand's features are the row's first entries. -/
theorem row_flat (flat : Fin 128 → EReal) (w : Fin 8 → ℕ) (r s : Fin 8 → BitVec 32) (k : Fin 128) :
    Model.row flat w r s ⟨k.val, by omega⟩ = flat k := by
  unfold Model.row
  rw [dif_pos k.isLt]

/-- The first layer, whose metadata come in the kernel's order. -/
theorem layer0 {N : ℕ} (flat : Fin 128 → EReal) (w : Fin 8 → ℕ) (r s : Fin 8 → BitVec 32) (W : Fin 194 → Fin N → EReal) (b : Fin N → EReal)
    (j : Fin N) (m : Fin 66 → EReal) (f : Fin 128 → EReal) (o : EReal)
    (hm : ∀ x, m x = W ⟨128 + (perm x).val, by omega⟩ j * Model.c2) (hf : ∀ k, f k = W ⟨k.val, by omega⟩ j * Model.c2)
    (ho : o = b j * Model.c2) :
    (∑ x, ((both w r s (perm x) : ℕ) : EReal) * m x) + ((∑ k, flat k * f k) + o)
      = Model.dense (Model.row flat w r s) W b j * Model.c2 := by
  rw [← dense_scale]
  have e1 : (∑ x, ((both w r s (perm x) : ℕ) : EReal) * m x)
      = ∑ y : Fin 66, Model.row flat w r s ⟨128 + y.val, by omega⟩ * (W ⟨128 + y.val, by omega⟩ j * Model.c2) := by
    refine Eq.trans (Finset.sum_congr rfl fun x _ => ?_) (Equiv.sum_comp (Equiv.ofBijective perm (Finite.injective_iff_bijective.1 perm_injective))
      fun y : Fin 66 => Model.row flat w r s ⟨128 + y.val, by omega⟩ * (W ⟨128 + y.val, by omega⟩ j * Model.c2))
    rw [hm x, ← row_meta flat]
    rfl
  have e2 : (∑ k, flat k * f k) = ∑ k : Fin 128, Model.row flat w r s ⟨k.val, by omega⟩ * (W ⟨k.val, by omega⟩ j * Model.c2) :=
    Finset.sum_congr rfl fun k _ => by rw [row_flat, hf]
  have e3 : (∑ k : Fin 194, Model.row flat w r s k * (W k j * Model.c2))
      = (∑ k : Fin 128, Model.row flat w r s ⟨k.val, by omega⟩ * (W ⟨k.val, by omega⟩ j * Model.c2))
        + ∑ y : Fin 66, Model.row flat w r s ⟨128 + y.val, by omega⟩ * (W ⟨128 + y.val, by omega⟩ j * Model.c2) :=
    Fin.sum_univ_add (a := 128) (b := 66) (fun k => Model.row flat w r s k * (W k j * Model.c2))
  rw [e1, e2, e3, ho, ← add_assoc, add_comm (∑ y : Fin 66, _)]

section
variable (v123 : FVec Ideal S3584x512 .bf16) (v130 : Vec Ideal S512x256 .bf16) (v133 : Vec Ideal S1x256 .f32)
  (v144 : Vec Ideal S256x72 .bf16)

/-- The second layer and the third's product. -/
theorem pay16_sum (i : Fin 3584) (j : Fin 72) : (k0_pay16 v123 v130 v133 v144 (ix2 i j) : EReal)
    = ∑ x, act ((∑ k, act (v123 (ix2 i k)) * (v130 (ix2 k x) : EReal)) + (v133 (ix2 0 x) : EReal)) * (v144 (ix2 x j) : EReal) := by
  unfold k0_pay16 act
  pointwise

/-- The third layer's activation. -/
theorem pay17_eq (v148 : Vec Ideal S1x64 .f32) (i : Fin 3584) (j : Fin 64) :
    (k0_pay17 v123 v130 v133 v144 v148 (ix2 i j) : EReal)
      = act (k0_pay16 v123 v130 v133 v144 (ix2 i ⟨j.val, by omega⟩) + (v148 (ix2 0 j) : EReal)) := by
  unfold k0_pay17 act
  generalize k0_pay16 v123 v130 v133 v144 = v146
  pointwise

/-- The auxiliary head's last layer. -/
theorem pay18_eq (v160 : Vec Ideal S1x1 .f32) (i : Fin 3584) :
    (k0_pay18 v123 v130 v133 v144 v160 (ix2 i 0) : EReal)
      = (k0_pay16 v123 v130 v133 v144 (ix2 i 64) : EReal) + (v160 (ix2 0 0) : EReal) := by
  unfold k0_pay18
  generalize k0_pay16 v123 v130 v133 v144 = v146
  pointwise
end

/-- The logit, or the score of a play that is not valid. -/
theorem pay2_eq (v52 : FVec Ideal S3584x128 .f32) (v158 : FVec Ideal S3584x64 .bf16) (v164 : Vec Ideal S64x8 .bf16)
    (v168 : Vec Ideal S1x1 .f32) (i : Fin 3584) : (k0_pay2 v52 v158 v164 v168 (ix2 i 0) : EReal)
      = if (v52 (ix2 i 72) : EReal) = 0 then (∑ x, (v158 (ix2 i x) : EReal) * (v164 (ix2 x 0) : EReal)) + (v168 (ix2 0 0) : EReal)
        else Model.low := by
  unfold k0_pay2 k0_pay1
  pointwise

/-- The auxiliary value, or zero for a play that is not valid. -/
theorem pay3_eq (v52 : FVec Ideal S3584x128 .f32) (v163 : FVec Ideal S3584x1 .f32) (i : Fin 3584) :
    (k0_pay3 v52 v163 (ix2 i 0) : EReal) = if (v52 (ix2 i 72) : EReal) = 0 then (v163 (ix2 i 0) : EReal) else 0 := by
  unfold k0_pay3 k0_pay1
  pointwise

section
variable (X : Fin 194 → EReal) (W0 A0 : Fin 194 → Fin 256 → EReal) (b0 a0 : Fin 256 → EReal) (W1 A1 : Fin 256 → Fin 128 → EReal)
  (b1 a1 : Fin 128 → EReal) (W2 : Fin 128 → Fin 64 → EReal) (b2 : Fin 64 → EReal) (A2 : Fin 128 → Fin 1 → EReal) (a2 : Fin 1 → EReal)
  (W3 : Fin 64 → Fin 1 → EReal) (b3 : Fin 1 → EReal)
  (v123 : FVec Ideal S3584x512 .bf16) (v130 : Vec Ideal S512x256 .bf16) (v133 : Vec Ideal S1x256 .f32)
  (v144 : Vec Ideal S256x72 .bf16) (i : Fin 3584)

/-- What the second layer's weights hold: two blocks, scaled. -/
structure Blocks : Prop where
  t0 : ∀ j : Fin 256, (v123 (ix2 i ⟨j.val, by omega⟩) : EReal) = Model.dense X W0 b0 j * Model.c2
  t1 : ∀ j : Fin 256, (v123 (ix2 i ⟨256 + j.val, by omega⟩) : EReal) = Model.dense X A0 a0 j * Model.c2
  w00 : ∀ (k : Fin 256) (j : Fin 128), (v130 (ix2 ⟨k.val, by omega⟩ ⟨j.val, by omega⟩) : EReal) = W1 k j * Model.c2
  w01 : ∀ (k : Fin 256) (j : Fin 128), (v130 (ix2 ⟨k.val, by omega⟩ ⟨128 + j.val, by omega⟩) : EReal) = 0
  w10 : ∀ (k : Fin 256) (j : Fin 128), (v130 (ix2 ⟨256 + k.val, by omega⟩ ⟨j.val, by omega⟩) : EReal) = 0
  w11 : ∀ (k : Fin 256) (j : Fin 128), (v130 (ix2 ⟨256 + k.val, by omega⟩ ⟨128 + j.val, by omega⟩) : EReal) = A1 k j * Model.c2
  o0 : ∀ j : Fin 128, (v133 (ix2 0 ⟨j.val, by omega⟩) : EReal) = b1 j * Model.c2
  o1 : ∀ j : Fin 128, (v133 (ix2 0 ⟨128 + j.val, by omega⟩) : EReal) = a1 j * Model.c2
  u00 : ∀ (k : Fin 128) (j : Fin 64), (v144 (ix2 ⟨k.val, by omega⟩ ⟨j.val, by omega⟩) : EReal) = W2 k j * Model.c2
  u10 : ∀ (k : Fin 128) (j : Fin 64), (v144 (ix2 ⟨128 + k.val, by omega⟩ ⟨j.val, by omega⟩) : EReal) = 0
  u01 : ∀ k : Fin 128, (v144 (ix2 ⟨k.val, by omega⟩ 64) : EReal) = 0
  u11 : ∀ k : Fin 128, (v144 (ix2 ⟨128 + k.val, by omega⟩ 64) : EReal) = A2 k 0

variable {X W0 A0 b0 a0 W1 A1 b1 a1 W2 A2 v123 v130 v133 v144 i}
variable (H : Blocks X W0 A0 b0 a0 W1 A1 b1 a1 W2 A2 v123 v130 v133 v144 i)
include H

/-- The second layer's first half. -/
theorem second_0 (j : Fin 128) :
    act ((∑ k, act (v123 (ix2 i k)) * (v130 (ix2 k ⟨j.val, by omega⟩) : EReal)) + (v133 (ix2 0 ⟨j.val, by omega⟩) : EReal))
      = Model.gelu (Model.dense (fun k => Model.gelu (Model.dense X W0 b0 k)) W1 b1 j) := by
  rw [← act_scale, ← dense_scale]
  refine congrArg act (congr (congrArg _ ?_) (H.o0 j))
  refine (sum_first (n := 256) (m := 256) (fun k => act (v123 (ix2 i k)) * (v130 (ix2 k ⟨j.val, by omega⟩) : EReal)) fun k => ?_).trans
    (Finset.sum_congr rfl fun k _ => ?_)
  · exact (congrArg _ (H.w10 k j)).trans (mul_zero _)
  · exact congr (congrArg _ ((congrArg act (H.t0 k)).trans (act_scale _))) (H.w00 k j)

/-- The second layer's second half. -/
theorem second_1 (j : Fin 128) :
    act ((∑ k, act (v123 (ix2 i k)) * (v130 (ix2 k ⟨128 + j.val, by omega⟩) : EReal)) + (v133 (ix2 0 ⟨128 + j.val, by omega⟩) : EReal))
      = Model.gelu (Model.dense (fun k => Model.gelu (Model.dense X A0 a0 k)) A1 a1 j) := by
  rw [← act_scale, ← dense_scale]
  refine congrArg act (congr (congrArg _ ?_) (H.o1 j))
  refine (sum_second (n := 256) (m := 256) (fun k => act (v123 (ix2 i k)) * (v130 (ix2 k ⟨128 + j.val, by omega⟩) : EReal)) fun k => ?_).trans
    (Finset.sum_congr rfl fun k _ => ?_)
  · exact (congrArg _ (H.w01 k j)).trans (mul_zero _)
  · exact congr (congrArg _ ((congrArg act (H.t1 k)).trans (act_scale _))) (H.w11 k j)

/-- The third layer's product for the logits. -/
theorem pay16_lo (j : Fin 64) : (k0_pay16 v123 v130 v133 v144 (ix2 i ⟨j.val, by omega⟩) : EReal)
    = ∑ k, Model.gelu (Model.dense (fun k => Model.gelu (Model.dense X W0 b0 k)) W1 b1 k) * (W2 k j * Model.c2) := by
  rw [pay16_sum]
  refine (sum_first (n := 128) (m := 128) _ fun k => ?_).trans (Finset.sum_congr rfl fun k _ => ?_)
  · exact (congrArg _ (H.u10 k j)).trans (mul_zero _)
  · exact congr (congrArg _ (second_0 H k)) (H.u00 k j)

/-- The third layer's product for the auxiliary value. -/
theorem pay16_aux : (k0_pay16 v123 v130 v133 v144 (ix2 i 64) : EReal)
    = ∑ k, Model.gelu (Model.dense (fun k => Model.gelu (Model.dense X A0 a0 k)) A1 a1 k) * A2 k 0 := by
  rw [pay16_sum]
  refine (sum_second (n := 128) (m := 128) _ fun k => ?_).trans (Finset.sum_congr rfl fun k _ => ?_)
  · exact (congrArg _ (H.u01 k)).trans (mul_zero _)
  · exact congr (congrArg _ (second_1 H k)) (H.u11 k)

/-- The logit before the choice. -/
theorem logit_at (v148 : Vec Ideal S1x64 .f32) (v164 : Vec Ideal S64x8 .bf16) (v168 : Vec Ideal S1x1 .f32)
    (h148 : ∀ j, (v148 (ix2 0 j) : EReal) = b2 j * Model.c2) (h164 : ∀ x, (v164 (ix2 x 0) : EReal) = W3 x 0)
    (h168 : (v168 (ix2 0 0) : EReal) = b3 0) :
    (∑ x, (k0_pay17 v123 v130 v133 v144 v148 (ix2 i x) : EReal) * (v164 (ix2 x 0) : EReal)) + (v168 (ix2 0 0) : EReal)
      = Model.logit X W0 b0 W1 b1 W2 b2 W3 b3 := by
  unfold Model.logit
  refine congr (congrArg _ (Finset.sum_congr rfl fun j _ => ?_)) h168
  rw [h164, pay17_eq, pay16_lo H, h148, dense_scale, act_scale]

/-- The auxiliary value before the choice. -/
theorem aux_at (v160 : Vec Ideal S1x1 .f32) (h160 : (v160 (ix2 0 0) : EReal) = a2 0) :
    (k0_pay18 v123 v130 v133 v144 v160 (ix2 i 0) : EReal) = Model.aux X A0 a0 A1 a1 A2 a2 := by
  rw [pay18_eq, pay16_aux H, h160]
  rfl

end

end Cert.KerNet

end
-- ==== Proof.KerBlock.lean ====
module

public import proofs.«01_k».proof.Proof.KerNet
public import proofs.«01_k».proof.Proof.KerMeta

@[expose] public section

/-! What one block of the kernel computes, given what its windows hold. -/

noncomputable section

namespace Cert.KerBlock

open Idealize.ShloMosaic Cert.KernelIdeal Cert.KernelIdeal.Gen Cert.Tables Cert.Lanes Cert.Flags Cert.KerLanes

variable (x0 : Vec Ideal S128x3 .i32) (x1 : Vec Ideal S16x128 .bf16) (x2 : Vec Ideal S3584x256 .bf16) (x3 : Vec Ideal S3584x16 .bf16)
  (x4 : Vec Ideal S3584x2 .bf16) (x5 : Vec Ideal S3584x16 .f32) (x6 : Vec Ideal S16x14 .bf16) (x7 : Vec Ideal S128x32 .bf16)
  (x8 : Vec Ideal S1x32 .f32) (x9 : Vec Ideal S384x32 .bf16) (x10 : Vec Ideal S1x32 .f32) (x11 : Vec Ideal S32x16 .bf16)
  (x12 : Vec Ideal S128x512 .bf16) (x13 : Vec Ideal S1x512 .f32) (x14 : Vec Ideal S66x512 .bf16)
  (z : Ideal FTy.bf16) (zs : FVec Ideal S3584x32 .f32)

/-- The lanes. -/
abbrev lanes : FVec Ideal S3584x128 .f32 := k0_pay11 (k0_pay7 x0) (k0_pay8 x0) (k0_pay9 x0 x6) (k0_pay10 x0 x6) z x2

/-- The first layer, scaled. -/
abbrev first : FVec Ideal S3584x512 .bf16 :=
  k0_pay15 (k0_pay12 (k0_pay7 x0) (k0_pay8 x0) (k0_pay9 x0 x6) (k0_pay10 x0 x6) z x2 x7 x8)
    (k0_pay13 (k0_pay7 x0) (k0_pay8 x0) (k0_pay9 x0 x6) (k0_pay10 x0 x6) z x2)
    (k0_pay14 (k0_pay7 x0) (k0_pay8 x0) (k0_pay9 x0 x6) (k0_pay10 x0 x6) z x2) x9 zs x10 x11 x5 x4 x3 x1 x12 x13 x14

variable (i : Fin 3584) (b : Fin 16) (w : Fin 8 → ℕ)

/-- What the tables hold at a row of hand `b` that takes `w`. -/
structure Row : Prop where
  hz : z = (0 : EReal)
  hzs : ∀ c, (zs (ix2 i c) : EReal) = 0
  str : ∀ s c, (x6 (ix2 s c) : EReal) = ((Lanes.straight16 s c : ℕ) : EReal)
  take : ∀ x : Fin 128, (x2 (ix2 i ⟨x.val, by omega⟩) : EReal)
    = ((if x.val / 8 = b.val then w ⟨x.val % 8, by omega⟩ else 0 : ℕ) : EReal)
  left : ∀ x : Fin 128, (x2 (ix2 i ⟨128 + x.val, by omega⟩) : EReal)
    = ((if x.val / 8 = b.val then Model.rest w ⟨x.val % 8, by omega⟩ else 0 : ℕ) : EReal)
  le : ∀ h, w h ≤ 1
  seg : ∀ (l : Fin 128) (c : Fin 32), (x7 (ix2 l c) : EReal)
    = ((if segLo c ≤ l.val ∧ l.val < segLo c + segN c then 1 else 0 : ℕ) : EReal)
  segN : ∀ c, (x8 (ix2 0 c) : EReal) = ((Tables.segN c : ℕ) : EReal)
  sum : ∀ (l : Fin 384) (c : Fin 32), (x9 (ix2 l c) : EReal)
    = ((if sumLo c ≤ l.val ∧ l.val < sumLo c + sumN c then 1 else 0 : ℕ) : EReal)
  thr : ∀ c, 0 < Tables.thr c → (x10 (ix2 0 c) : EReal) = ((Tables.thr c : ℕ) : EReal)
  coef : ∀ c j, (x11 (ix2 c j) : EReal) = (((Tables.coef c j : ℤ) : ℝ) : EReal)
  need : ∀ j, (x5 (ix2 i j) : EReal) = ((Tables.need (Model.size (halfOf w j)) (place j) : ℕ) : EReal)
  size : (x4 (ix2 i 0) : EReal) = ((Model.size w : ℕ) : EReal)
  size' : (x4 (ix2 i 1) : EReal) = ((Model.size (Model.rest w) : ℕ) : EReal)
  hand : ∀ x, (x3 (ix2 i x) : EReal) = if x = b then (1 : EReal) else 0

/-- A hand's ranks. -/
abbrev ranks : Fin 8 → BitVec 32 := fun h => x0 (ix2 ⟨b.val * 8 + h.val, by omega⟩ 0)
/-- A hand's suits. -/
abbrev suits : Fin 8 → BitVec 32 := fun h => x0 (ix2 ⟨b.val * 8 + h.val, by omega⟩ 1)
/-- A hand's enhancements. -/
abbrev enhs : Fin 8 → BitVec 32 := fun h => x0 (ix2 ⟨b.val * 8 + h.val, by omega⟩ 2)

variable {x0 x1 x2 x3 x4 x5 x6 x7 x8 x9 x10 x11 x12 x13 x14 z zs i b w}
variable (H : Row x2 x3 x4 x5 x6 x7 x8 x9 x10 x11 z zs i b w)
include H

/-- The lanes of a row. -/
theorem lanes_at (c : Fin 128) : (lanes x0 x2 x6 z (ix2 i c) : EReal)
    = ((lane w (ranks x0 b) (suits x0 b) (enhs x0 b) c : ℕ) : EReal) :=
  KerLanes.lanes_at x0 x6 z x2 H.hz H.str i b w H.take H.left c

/-- The greatest count of a column. -/
theorem greatest_at (c : Fin 32) :
    (k0_pay12 (k0_pay7 x0) (k0_pay8 x0) (k0_pay9 x0 x6) (k0_pay10 x0 x6) z x2 x7 x8 (ix2 i c) : EReal)
      = (((Finset.univ.filter fun l : Fin 128 => segLo c ≤ l.val ∧ l.val < segLo c + Tables.segN c).sup
          (lane w (ranks x0 b) (suits x0 b) (enhs x0 b)) : ℕ) : EReal) := by
  refine KerMeta.pay12_at _ _ _ _ z x2 x7 x8 i c _ _ _ (lanes_at H) (fun x => H.seg x c) (H.segN c) (KerMeta.seg_ok c).1 ?_
  rcases (KerMeta.seg_ok c).2 with h | h | h | h | h | h | h
  all_goals first
    | exact card_nonzero w _ _ _ _ _ (by omega)
    | exact (Finset.card_eq_zero.2 (by
        rw [h]; ext l; simp; omega)).le.trans (by omega)

/-- The first layer of a row. -/
theorem first_at (flat : Fin 128 → EReal) (W : Fin 194 → Fin 256 → EReal) (o : Fin 256 → EReal) (j : Fin 512) (k : Fin 256)
    (hx : ∀ y, (x1 (ix2 b y) : EReal) = flat y)
    (hm : ∀ x, (x14 (ix2 x j) : EReal) = W ⟨128 + (perm x).val, by omega⟩ k * Model.c2)
    (hf : ∀ y : Fin 128, (x12 (ix2 y j) : EReal) = W ⟨y.val, by omega⟩ k * Model.c2)
    (ho : (x13 (ix2 0 j) : EReal) = o k * Model.c2) :
    (first x0 x1 x2 x3 x4 x5 x6 x7 x8 x9 x10 x11 x12 x13 x14 z zs (ix2 i j) : EReal)
      = Model.dense (Model.row flat w (ranks x0 b) (suits x0 b)) W o k * Model.c2 := by
  have e := KerMeta.pay15_at (v71 := k0_pay12 (k0_pay7 x0) (k0_pay8 x0) (k0_pay9 x0 x6) (k0_pay10 x0 x6) z x2 x7 x8)
    (v72 := k0_pay13 (k0_pay7 x0) (k0_pay8 x0) (k0_pay9 x0 x6) (k0_pay10 x0 x6) z x2)
    (v83 := k0_pay14 (k0_pay7 x0) (k0_pay8 x0) (k0_pay9 x0 x6) (k0_pay10 x0 x6) z x2)
    (v84 := x9) (cst_30 := zs) (v87 := x10) (v93 := x11) (v95 := x5) (v104 := x4) (v106 := x3) (v109 := x1) (v111 := x12) (v114 := x13) (v119 := x14)
    i j b w (ranks x0 b) (suits x0 b) (enhs x0 b)
    (fun x => KerMeta.pay13_at _ _ _ _ z x2 i x _ (lanes_at H x))
    (fun c => KerMeta.total w (ranks x0 b) (suits x0 b) (enhs x0 b) c _ _ _ _ (greatest_at H c) (H.hzs c)
      (fun x => KerMeta.pay14_at _ _ _ _ z x2 i x w _ _ _ (lanes_at H)) (fun x => H.sum x c))
    H.thr H.coef H.need H.size H.size' H.hand
  refine e.trans ?_
  refine Eq.trans ?_ (KerNet.layer0 flat w (ranks x0 b) (suits x0 b) W o k _ _ _ hm hf ho)
  exact congrArg _ (congrArg (fun t : EReal => t + _) (Finset.sum_congr rfl fun y _ => congrArg (fun t : EReal => t * _) (hx y)))

variable {W0 A0 : Fin 194 → Fin 256 → EReal} {b0 a0 : Fin 256 → EReal} {W1 A1 : Fin 256 → Fin 128 → EReal} {b1 a1 : Fin 128 → EReal}
  {W2 : Fin 128 → Fin 64 → EReal} {b2 : Fin 64 → EReal} {A2 : Fin 128 → Fin 1 → EReal} {a2 : Fin 1 → EReal}
  {W3 : Fin 64 → Fin 1 → EReal} {b3 : Fin 1 → EReal} {flat : Fin 128 → EReal}
  {x15 : Vec Ideal S512x256 .bf16} {x16 : Vec Ideal S1x256 .f32} {x17 : Vec Ideal S256x72 .bf16}
variable (B : KerNet.Blocks (Model.row flat w (ranks x0 b) (suits x0 b)) W0 A0 b0 a0 W1 A1 b1 a1 W2 A2
  (first x0 x1 x2 x3 x4 x5 x6 x7 x8 x9 x10 x11 x12 x13 x14 z zs) x15 x16 x17 i)
include B

/-- The logit of a row. -/
theorem logit_at (x18 : Vec Ideal S1x64 .f32) (x20 : Vec Ideal S64x8 .bf16) (x21 : Vec Ideal S1x1 .f32)
    (h18 : ∀ j, (x18 (ix2 0 j) : EReal) = b2 j * Model.c2) (h20 : ∀ x, (x20 (ix2 x 0) : EReal) = W3 x 0)
    (h21 : (x21 (ix2 0 0) : EReal) = b3 0) :
    (k0_pay2 (lanes x0 x2 x6 z) (k0_pay17 (first x0 x1 x2 x3 x4 x5 x6 x7 x8 x9 x10 x11 x12 x13 x14 z zs) x15 x16 x17 x18) x20 x21 (ix2 i 0) : EReal)
      = if decide (Model.invalid w (ranks x0 b) (suits x0 b) (enhs x0 b) = 0) then
          Model.logit (Model.row flat w (ranks x0 b) (suits x0 b)) W0 b0 W1 b1 W2 b2 W3 b3 else Model.low := by
  rw [KerNet.pay2_eq, KerNet.logit_at b2 W3 b3 B x18 x20 x21 h18 h20 h21, lanes_at H, lane_invalid]
  simp only [decide_eq_true_eq, Nat.cast_eq_zero]

/-- The auxiliary value of a row. -/
theorem aux_at (x19 : Vec Ideal S1x1 .f32) (h19 : (x19 (ix2 0 0) : EReal) = a2 0) :
    (k0_pay3 (lanes x0 x2 x6 z) (k0_pay18 (first x0 x1 x2 x3 x4 x5 x6 x7 x8 x9 x10 x11 x12 x13 x14 z zs) x15 x16 x17 x19) (ix2 i 0) : EReal)
      = if decide (Model.invalid w (ranks x0 b) (suits x0 b) (enhs x0 b) = 0) then
          Model.aux (Model.row flat w (ranks x0 b) (suits x0 b)) A0 a0 A1 a1 A2 a2 else 0 := by
  rw [KerNet.pay3_eq, KerNet.aux_at a2 B x19 h19, lanes_at H, lane_invalid]
  simp only [decide_eq_true_eq, Nat.cast_eq_zero]

end Cert.KerBlock

end
-- ==== Proof.KerTab.lean ====
module

public import proofs.«01_k».proof.Proof.Gen.KernelIdeal.Frame
public import proofs.«01_k».proof.Proof.KerMeta
public import Idealize.ShloMosaic.Lib.Pointwise
public import Idealize.ShloMosaic.Lib.StableHlo.ReadAt
public import Idealize.ShloMosaic.Lib.Tactic.CleanTypes

@[expose] public section

set_option maxRecDepth 16384

/-! The kernel's constant tables, as the region reads them. -/

noncomputable section

namespace Cert.KerTab

open Idealize.ShloMosaic Cert.KernelIdeal Cert.KernelIdeal.Gen Cert.Tables

variable (m : (ℓ : Loc nD τ sig) → Buf (Elt Ideal) ℓ) (c : Dev nD)

theorem bit_at (n : ℕ) (h : n ≤ 1) (z : BitVec 16) (e : z = bword n) : Ideal.ofBits .bf16 z = ((n : ℕ) : EReal) :=
  e ▸ ofBits_bword n h

theorem num_at (n : ℕ) (h : small n = true) (z : BitVec 32) (e : z = fword n) : Ideal.ofBits .f32 z = ((n : ℕ) : EReal) :=
  e ▸ ofBits_fword n h

theorem small_mask (q : Fin 218) (h : Fin 8) : small (mask q h) = true := by
  have := mask_le q h
  unfold small; simp; omega

theorem pick_eq (a b : ℕ) (x y : EReal) (ha : a < 2 ^ 32) (hb : b < 2 ^ 32) :
    Scalar.select (IntOp.cmpi CmpIPredicate.eq (BitVec.ofNat 32 a) (BitVec.ofNat 32 b)) x y = if b = a then x else y := by
  by_cases h : b = a
  · subst h; simp [Scalar.select, IntOp.cmpi]
  · have : ¬ BitVec.ofNat 32 a = BitVec.ofNat 32 b := fun q => h (by
      have := congrArg BitVec.toNat q
      simp only [BitVec.toNat_ofNat] at this
      omega)
    have t : (BitVec.ofNat 32 a == BitVec.ofNat 32 b) = false := by rw [beq_eq_false_iff_ne]; exact this
    simp [Scalar.select, IntOp.cmpi, t, h]

theorem zero_at : (id (constant (F := Ideal) S_ .f32 0#32) ix0 : EReal) = 0 := by
  show Ideal.ofBits .f32 0#32 = 0
  simp [Ideal.ofBits, Ideal.ieee]

theorem mask_val (h : Fin 8) (a : ℕ) (ha : a < 218) :
    Ideal.ofBits .f32 (lit1 (S224x8.rowMajor (ix2 ⟨a, by omega⟩ h))) = ((mask ⟨a, ha⟩ h : ℕ) : EReal) :=
  num_at _ (small_mask _ _) _ ((congrArg lit1 (show _ = (⟨a * 8 + h.val, by omega⟩ : Fin 1792) from
    Fin.ext (Shape.rowMajor_val_two _))).trans (ker_mask ⟨a, ha⟩ h))

theorem one_sub (n : ℕ) (h : n ≤ 1) : (1 : EReal) - ((n : ℕ) : EReal) = ((1 - n : ℕ) : EReal) := by
  have : n = 0 ∨ n = 1 := by omega
  rcases this with h | h <;> subst h
  · simp
  · show ((1 : ℝ) : EReal) - ((1 : ℕ) : EReal) = _
    rw [Nat.cast_one, ← EReal.coe_one, ← EReal.coe_sub]
    simp

/-- The straights. -/
theorem str_at (s : Fin 16) (k : Fin 14) : (V m c main_cst_2 (ix2 s k) : EReal) = ((straight16 s k : ℕ) : EReal) := by
  unfold V V0
  simp only [List.flatten_cons, List.flatten_nil, List.append_nil]
  after_reads_at
  exact bit_at _ (straight_le s k) _ ((congrArg lit4 (Fin.ext (Shape.rowMajor_val_two _))).trans (ker_straight s k))

/-- The lanes searched for a greatest. -/
theorem seg_at (l : Fin 128) (k : Fin 32) : (V m c main_cst_3 (ix2 l k) : EReal)
    = ((if segLo k ≤ l.val ∧ l.val < segLo k + segN k then 1 else 0 : ℕ) : EReal) := by
  unfold V V0
  simp only [List.flatten_cons, List.flatten_nil, List.append_nil]
  after_reads_at
  exact bit_at _ (by split <;> omega) _ ((congrArg lit5 (Fin.ext (Shape.rowMajor_val_two _))).trans (ker_seg l k))

/-- How many those are. -/
theorem segN_at (k : Fin 32) : (V m c main_cst_4 (ix2 0 k) : EReal) = ((segN k : ℕ) : EReal) := by
  unfold V V0
  simp only [List.flatten_cons, List.flatten_nil, List.append_nil]
  after_reads_at
  exact num_at _ (ker_segN k).2 _ ((congrArg lit6 (Fin.ext ((Shape.rowMajor_val_two _).trans (by
    show 0 * 32 + k.val = k.val; omega)))).trans (ker_segN k).1)

/-- The lanes summed. -/
theorem sum_at (l : Fin 384) (k : Fin 32) : (V m c main_cst_5 (ix2 l k) : EReal)
    = ((if sumLo k ≤ l.val ∧ l.val < sumLo k + sumN k then 1 else 0 : ℕ) : EReal) := by
  unfold V V0
  simp only [List.flatten_cons, List.flatten_nil, List.append_nil]
  after_reads_at
  exact bit_at _ (by split <;> omega) _ ((congrArg lit7 (Fin.ext (Shape.rowMajor_val_two _))).trans (ker_sum l k))

/-- The thresholds. -/
theorem thr_at (k : Fin 32) (h : 0 < thr k) : (V m c main_cst_6 (ix2 0 k) : EReal) = ((thr k : ℕ) : EReal) := by
  unfold V V0
  simp only [List.flatten_cons, List.flatten_nil, List.append_nil]
  after_reads_at
  exact num_at _ (ker_thr k h).2 _ ((congrArg lit8 (Fin.ext ((Shape.rowMajor_val_two _).trans (by
    show 0 * 32 + k.val = k.val; omega)))).trans (ker_thr k h).1)

/-- The coefficients. -/
theorem coef_at (k : Fin 32) (j : Fin 16) : (V m c main_cst_7 (ix2 k j) : EReal) = (((coef k j : ℤ) : ℝ) : EReal) := by
  unfold V V0
  simp only [List.flatten_cons, List.flatten_nil, List.append_nil]
  after_reads_at
  exact (congrArg (Ideal.ofBits .bf16) ((congrArg lit9 (Fin.ext (Shape.rowMajor_val_two _))).trans (ker_coef k j).1)).trans
    (ofBits_zword _ (ker_coef k j).2)

variable (i : Fin 3584) (hq : i.val % 224 < 218)

/-- The sizes of a play. -/
theorem size_at : (V m c main_v94 (ix2 i 0) : EReal) = ((Model.size (mask ⟨i.val % 224, hq⟩) : ℕ) : EReal) := by
  unfold V V0
  simp only [List.flatten_cons, List.flatten_nil, List.append_nil]
  after_reads_at
  exact num_at _ (size_le _).1 _ ((congrArg lit2 (Fin.ext (Shape.rowMajor_val_two _))).trans (ker_size ⟨i.val % 224, hq⟩).1)

/-- The sizes of what a play leaves. -/
theorem size_at' : (V m c main_v94 (ix2 i 1) : EReal) = ((Model.size (Model.rest (mask ⟨i.val % 224, hq⟩)) : ℕ) : EReal) := by
  unfold V V0
  simp only [List.flatten_cons, List.flatten_nil, List.append_nil]
  after_reads_at
  exact num_at _ (size_le _).2 _ ((congrArg lit2 (Fin.ext (Shape.rowMajor_val_two _))).trans (ker_size ⟨i.val % 224, hq⟩).2)

/-- The sizes that the flags ask for. -/
theorem need_at (j : Fin 16) : (V m c main_v97 (ix2 i j) : EReal)
    = ((need (Model.size (Flags.halfOf (mask ⟨i.val % 224, hq⟩) j)) (Flags.place j) : ℕ) : EReal) := by
  unfold V V0
  simp only [List.flatten_cons, List.flatten_nil, List.append_nil]
  after_reads_at
  refine num_at _ (need_small _ _) _ ((congrArg lit3 (show _ = (⟨i.val % 224 * 16 + j.val, by omega⟩ : Fin 3584) from Fin.ext (Shape.rowMajor_val_two _))).trans ?_)
  unfold Flags.halfOf
  by_cases h : j.val < 8
  · rw [if_pos h]
    have e : Flags.place j = ⟨j.val, h⟩ := Fin.ext (Nat.mod_eq_of_lt h)
    rw [e]
    exact (ker_need ⟨i.val % 224, hq⟩ ⟨j.val, h⟩).1
  · rw [if_neg h]
    have e : Flags.place j = ⟨j.val - 8, by omega⟩ := Fin.ext (by show j.val % 8 = j.val - 8; omega)
    rw [e]
    exact (congrArg lit3 (Fin.ext (by show i.val % 224 * 16 + j.val = i.val % 224 * 16 + (8 + (j.val - 8)); omega))).trans
      (ker_need ⟨i.val % 224, hq⟩ ⟨j.val - 8, by omega⟩).2

/-- Which hand a row is of. -/
theorem hand_at (x : Fin 16) : (V m c main_v90 (ix2 i x) : EReal) = if x.val = i.val / 224 then (1 : EReal) else 0 := by
  unfold V V0
  simp only [List.flatten_cons, List.flatten_nil, List.append_nil]
  after_reads_at
  exact pick_eq _ _ _ _ (by omega) (by omega)

/-- The play's cards. -/
theorem take_at (x : Fin 128) : (V m c main_v84 (ix2 i ⟨x.val, by omega⟩) : EReal)
    = ((if x.val / 8 = i.val / 224 then mask ⟨i.val % 224, hq⟩ ⟨x.val % 8, by omega⟩ else 0 : ℕ) : EReal) := by
  unfold V V0
  simp only [List.flatten_cons, List.flatten_nil, List.append_nil]
  after_reads_at
  after_reads_at
  rw [pick_eq _ _ _ _ (by omega) (by omega), mask_val ⟨x.val % 8, _⟩ (i.val % 224) hq, zero_at]
  split <;> simp

/-- The cards that the play leaves. -/
theorem left_at (x : Fin 128) : (V m c main_v84 (ix2 i ⟨128 + x.val, by omega⟩) : EReal)
    = ((if x.val / 8 = i.val / 224 then Model.rest (mask ⟨i.val % 224, hq⟩) ⟨x.val % 8, by omega⟩ else 0 : ℕ) : EReal) := by
  unfold V V0
  simp only [List.flatten_cons, List.flatten_nil, List.append_nil]
  after_reads_at
  after_reads_at
  rw [pick_eq _ _ _ _ (by omega) (by omega), mask_val ⟨x.val % 8, _⟩ (i.val % 224) hq, zero_at, one_sub _ (mask_le _ _)]
  split
  · rfl
  · simp

end Cert.KerTab

end
-- ==== Proof.KerPut.lean ====
module

public import proofs.«01_k».proof.KernelIdeal
public import proofs.«01_k».proof.Proof.Gen.KernelIdeal.Launch
public import Idealize.ShloMosaic.Lib.Pointwise
public import Idealize.ShloMosaic.Lib.Routing.OpsSet
public import Idealize.ShloMosaic.Lib.Routing.OpsPair

@[expose] public section

/-! Arrays of blocks: a block put into an array, read at an index. -/

noncomputable section

namespace Cert.KerPut

open Idealize.ShloMosaic Idealize.ShloMosaic.ValueIdx Cert.KernelIdeal Cert.KernelIdeal.Gen

/-- A block put at row `p` and column `q`: inside it the block's entries, elsewhere the array's. -/
theorem put_at {α : Type} {R C A B w : ℕ} {si : Shape} (d : ScatterDims ⟨2, ![R, C]⟩ si ⟨2, ![A, B]⟩)
    (x : (⟨2, ![R, C]⟩ : Shape).Idx → α) (idx : IVec si w) (u : (⟨2, ![A, B]⟩ : Shape).Idx → α) (p q : ℕ)
    (h0 : ∀ (a : Fin A) (b : Fin B), d.start (ValueIdx.ix2 a b) idx 0 = (p : Int)) (h1 : ∀ (a : Fin A) (b : Fin B), d.start (ValueIdx.ix2 a b) idx 1 = (q : Int))
    (w0 : ∀ (a : Fin A) (b : Fin B), d.window (ValueIdx.ix2 a b) 0 = a.val) (w1 : ∀ (a : Fin A) (b : Fin B), d.window (ValueIdx.ix2 a b) 1 = b.val)
    (r : Fin R) (c : Fin C) :
    Host.scatter d (fun _ b => b) x idx u (ValueIdx.ix2 r c)
      = if h : (p ≤ r.val ∧ r.val - p < A) ∧ (q ≤ c.val ∧ c.val - q < B) then u (ValueIdx.ix2 ⟨r.val - p, h.1.2⟩ ⟨c.val - q, h.2.2⟩) else x (ValueIdx.ix2 r c) := by
  have key : ∀ (a : Fin A) (b : Fin B), d.resultIdx? (ValueIdx.ix2 a b) idx = some (ValueIdx.ix2 r c) ↔ p + a.val = r.val ∧ q + b.val = c.val := fun a b => by
    rw [Routing.resultIdx?_ix2, h0, h1, w0, w1]
    omega
  have lands : ∀ j, d.resultIdx? j idx = some (ValueIdx.ix2 r c) → p + (j 0).val = r.val ∧ q + (j 1).val = c.val := fun j hj =>
    (key (j 0) (j 1)).1 ((congrArg (fun t => d.resultIdx? t idx) (ValueIdx.eq_ix2 j).symm).trans hj)
  by_cases h : (p ≤ r.val ∧ r.val - p < A) ∧ (q ≤ c.val ∧ c.val - q < B)
  · rw [dif_pos h]
    refine Routing.scatter_set_hit d x idx u _ _ (fun j hj => ?_) (ValueIdx.ix2 ⟨r.val - p, h.1.2⟩ ⟨c.val - q, h.2.2⟩) ((key _ _).2 ⟨?_, ?_⟩)
    · have q := lands j hj
      refine (congrArg u (ValueIdx.eq_ix2 j)).trans (congrArg₂ (fun a b => u (ValueIdx.ix2 a b)) (Fin.ext ?_) (Fin.ext ?_))
      · show (j 0).val = r.val - p; omega
      · show (j 1).val = c.val - _; omega
    · show p + (r.val - p) = r.val; omega
    · show q + (c.val - q) = c.val; omega
  · rw [dif_neg h]
    exact Routing.scatter_set_miss d x idx u _ fun j hj => h (by
      have q := lands j hj
      have a := (j 0).isLt
      have b := (j 1).isLt
      change (j 0).val < A at a
      change (j 1).val < B at b
      omega)

/-- The two spellings of an index. -/
theorem ix_eq {n k : ℕ} (a : Fin n) (b : Fin k) : Idealize.ShloMosaic.ix2 a b = ValueIdx.ix2 a b := ValueIdx.eq_ix2 _

/-- A block of 256 by 128 put into 512 by 256. -/
theorem put_256 {α : Type} (x : S512x256.Idx → α) (idx : IVec S2 32) (u : S256x128.Idx → α) (p q : ℕ)
    (h0 : (idx (Idealize.ShloMosaic.ix1 0)).toInt = (p : Int)) (h1 : (idx (Idealize.ShloMosaic.ix1 1)).toInt = (q : Int)) (r : Fin 512) (c : Fin 256) :
    Host.scatter scatter_S512x256_S2_S256x128_01_n_01_0 (fun _ b => b) x idx u (Idealize.ShloMosaic.ix2 r c)
      = if h : (p ≤ r.val ∧ r.val - p < 256) ∧ (q ≤ c.val ∧ c.val - q < 128) then
          u (Idealize.ShloMosaic.ix2 ⟨r.val - p, h.1.2⟩ ⟨c.val - q, h.2.2⟩) else x (Idealize.ShloMosaic.ix2 r c) := by
  simp only [ix_eq]
  refine put_at (R := 512) (C := 256) (A := 256) (B := 128) _ x idx u p q (fun a b => ?_) (fun a b => ?_) (fun a b => rfl) (fun a b => rfl) r c
  · refine Eq.trans (congrArg (fun t => (idx t).toInt) (funext fun z => ?_)) h0; obtain rfl : z = 0 := Subsingleton.elim _ _; rfl
  · refine Eq.trans (congrArg (fun t => (idx t).toInt) (funext fun z => ?_)) h1; obtain rfl : z = 0 := Subsingleton.elim _ _; rfl

/-- A block of 128 by 64 put into 256 by 72. -/
theorem put_72 {α : Type} (x : S256x72.Idx → α) (idx : IVec S2 32) (u : S128x64.Idx → α) (p q : ℕ)
    (h0 : (idx (Idealize.ShloMosaic.ix1 0)).toInt = (p : Int)) (h1 : (idx (Idealize.ShloMosaic.ix1 1)).toInt = (q : Int)) (r : Fin 256) (c : Fin 72) :
    Host.scatter scatter_S256x72_S2_S128x64_01_n_01_0 (fun _ b => b) x idx u (Idealize.ShloMosaic.ix2 r c)
      = if h : (p ≤ r.val ∧ r.val - p < 128) ∧ (q ≤ c.val ∧ c.val - q < 64) then
          u (Idealize.ShloMosaic.ix2 ⟨r.val - p, h.1.2⟩ ⟨c.val - q, h.2.2⟩) else x (Idealize.ShloMosaic.ix2 r c) := by
  simp only [ix_eq]
  refine put_at (R := 256) (C := 72) (A := 128) (B := 64) _ x idx u p q (fun a b => ?_) (fun a b => ?_) (fun a b => rfl) (fun a b => rfl) r c
  · refine Eq.trans (congrArg (fun t => (idx t).toInt) (funext fun z => ?_)) h0; obtain rfl : z = 0 := Subsingleton.elim _ _; rfl
  · refine Eq.trans (congrArg (fun t => (idx t).toInt) (funext fun z => ?_)) h1; obtain rfl : z = 0 := Subsingleton.elim _ _; rfl

/-- A block of 128 by 1 put into 256 by 72. -/
theorem put_1 {α : Type} (x : S256x72.Idx → α) (idx : IVec S2 32) (u : S128x1.Idx → α) (p q : ℕ)
    (h0 : (idx (Idealize.ShloMosaic.ix1 0)).toInt = (p : Int)) (h1 : (idx (Idealize.ShloMosaic.ix1 1)).toInt = (q : Int)) (r : Fin 256) (c : Fin 72) :
    Host.scatter scatter_S256x72_S2_S128x1_01_n_01_0 (fun _ b => b) x idx u (Idealize.ShloMosaic.ix2 r c)
      = if h : (p ≤ r.val ∧ r.val - p < 128) ∧ (q ≤ c.val ∧ c.val - q < 1) then
          u (Idealize.ShloMosaic.ix2 ⟨r.val - p, h.1.2⟩ ⟨c.val - q, h.2.2⟩) else x (Idealize.ShloMosaic.ix2 r c) := by
  simp only [ix_eq]
  refine put_at (R := 256) (C := 72) (A := 128) (B := 1) _ x idx u p q (fun a b => ?_) (fun a b => ?_) (fun a b => rfl) (fun a b => rfl) r c
  · refine Eq.trans (congrArg (fun t => (idx t).toInt) (funext fun z => ?_)) h0; obtain rfl : z = 0 := Subsingleton.elim _ _; rfl
  · refine Eq.trans (congrArg (fun t => (idx t).toInt) (funext fun z => ?_)) h1; obtain rfl : z = 0 := Subsingleton.elim _ _; rfl

/-- A block of 64 by 1 put into 64 by 8. -/
theorem put_8 {α : Type} (x : S64x8.Idx → α) (idx : IVec S1 32) (u : S64x1.Idx → α) (q : ℕ)
    (h1 : (idx (Idealize.ShloMosaic.ix1 0)).toInt = (q : Int)) (r : Fin 64) (c : Fin 8) :
    Host.scatter scatter_S64x8_S1_S64x1_01_n_1_0 (fun _ b => b) x idx u (Idealize.ShloMosaic.ix2 r c)
      = if h : (0 ≤ r.val ∧ r.val - 0 < 64) ∧ (q ≤ c.val ∧ c.val - q < 1) then
          u (Idealize.ShloMosaic.ix2 ⟨r.val - 0, h.1.2⟩ ⟨c.val - q, h.2.2⟩) else x (Idealize.ShloMosaic.ix2 r c) := by
  simp only [ix_eq]
  refine put_at (R := 64) (C := 8) (A := 64) (B := 1) _ x idx u 0 q (fun a b => ?_) (fun a b => ?_) (fun a b => rfl) (fun a b => rfl) r c
  · rfl
  · refine Eq.trans (congrArg (fun t => (idx t).toInt) (funext fun z => ?_)) h1; obtain rfl : z = 0 := Subsingleton.elim _ _; rfl

/-- The rows of a matrix in a given order. -/
theorem pick_row {α : Type} (x : S66x256.Idx → α) (t : IVec S66 32) (k : Fin 66) (j : Fin 256) (p : Fin 66)
    (h : t (Idealize.ShloMosaic.ix1 k) = BitVec.ofNat 32 p.val) :
    Host.gather gather_S66x256_S66x1_S66x256_1_0_n_n_0_1_1256 x
        (broadcastInDim S66x1 ![0] bcast_S66_S66x1_0
          (select (cmpi CmpIPredicate.slt t (broadcastInDim S66 ![] bcast_S_S66 (constantI S_ 32 0#32)))
            (addi t (broadcastInDim S66 ![] bcast_S_S66 (constantI S_ 32 66#32))) t))
        (Idealize.ShloMosaic.ix2 k j) = x (Idealize.ShloMosaic.ix2 p j) := by
  rw [ix_eq, ix_eq]
  refine Routing.gather_row (nb := 66) (B := 256) (n := 66) gather_S66x256_S66x1_S66x256_1_0_n_n_0_1_1256 rfl rfl rfl rfl rfl x _ k j p ?_ (by decide)
  rw [← ix_eq]
  pointwise
  rw [h]
  exact Routing.wrap_of_lt _ _ (by rw [BitVec.toNat_ofNat]; omega)

end Cert.KerPut

end
-- ==== Proof.KerHost.lean ====
module

public import proofs.«01_k».proof.Proof.Gen.KernelIdeal.Frame
public import proofs.«01_k».proof.Proof.KerPut
public import proofs.«01_k».proof.Proof.Goal
public import proofs.«01_k».proof.Proof.Cast
public import Idealize.ShloMosaic.Lib.Pointwise
public import Idealize.ShloMosaic.Lib.StableHlo.ReadAt
public import Idealize.ShloMosaic.Lib.Tactic.CleanTypes

@[expose] public section

set_option maxRecDepth 16384

/-! The arrays that the host code lays out for the region, read at an index. -/

noncomputable section

namespace Cert.KerHost

open Idealize.ShloMosaic Cert.KernelIdeal Cert.KernelIdeal.Gen Cert.Tables Cert.KerPut

variable (m : (ℓ : Loc nD τ sig) → Buf (Elt Ideal) ℓ) (c : Dev nD)

/-- A matrix argument. -/
abbrev mat {K N : ℕ} (W : Goal.Mat K N) (k : Fin K) (j : Fin N) : EReal := W (ix2 k j)
/-- A vector argument. -/
abbrev vec {N : ℕ} (W : Goal.Vect N) (j : Fin N) : EReal := W (ix1 j)
/-- A table of words. -/
abbrev word {K N : ℕ} (W : Goal.IMat K N) (k : Fin K) (j : Fin N) : BitVec 32 := W (ix2 k j)

theorem zero_bits : Ideal.ofBits .f32 0#32 = 0 := by simp [Ideal.ofBits, Ideal.ieee]

/-- A card. -/
theorem rank_at (i : Fin 8192) : (V m c main_v4 (ix2 i 0) : BitVec 32) = word (m (c, Proc.tc.devRef main_arg2)) ⟨i.val / 8, by omega⟩ ⟨i.val % 8, by omega⟩ := by
  unfold V V0
  simp only [List.flatten_cons, List.flatten_nil, List.append_nil]
  after_reads_at
  after_reads_at

/-- A card. -/
theorem suit_at (i : Fin 8192) : (V m c main_v4 (ix2 i 1) : BitVec 32) = word (m (c, Proc.tc.devRef main_arg3)) ⟨i.val / 8, by omega⟩ ⟨i.val % 8, by omega⟩ := by
  unfold V V0
  simp only [List.flatten_cons, List.flatten_nil, List.append_nil]
  after_reads_at
  after_reads_at

/-- A card. -/
theorem enh_at (i : Fin 8192) : (V m c main_v4 (ix2 i 2) : BitVec 32) = word (m (c, Proc.tc.devRef main_arg4)) ⟨i.val / 8, by omega⟩ ⟨i.val % 8, by omega⟩ := by
  unfold V V0
  simp only [List.flatten_cons, List.flatten_nil, List.append_nil]
  after_reads_at
  after_reads_at

/-- A hand's features. -/
theorem flat_at (i : Fin 1024) (j : Fin 128) : (V m c main_v69 (ix2 i j) : EReal) = mat (m (c, Proc.tc.devRef main_arg1)) i j := by
  unfold V V0
  simp only [List.flatten_cons, List.flatten_nil, List.append_nil]
  after_reads_at

/-- The first layer's rows for the metadata. -/
theorem first_meta_main (x : Fin 66) (j : Fin 256) : (V m c main_v26 (ix2 x ⟨j.val, by omega⟩) : EReal) = mat (m (c, Proc.tc.devRef main_arg5)) ⟨128 + (perm x).val, by omega⟩ j * Model.c2 := by
  unfold V V0
  simp only [List.flatten_cons, List.flatten_nil, List.append_nil]
  after_reads_at
  after_reads_at
  refine congrArg (fun t : EReal => t * Model.c2) (?_ : _ = (_ : EReal))
  refine (pick_row _ _ x j (perm x) ?_).trans ?_
  · exact (congrArg lit0 (Fin.ext (Shape.rowMajor_val_one _))).trans (ker_perm x)
  · pointwise

/-- The first layer's rows for the metadata. -/
theorem first_meta_aux (x : Fin 66) (j : Fin 256) : (V m c main_v26 (ix2 x ⟨256 + j.val, by omega⟩) : EReal) = mat (m (c, Proc.tc.devRef main_arg13)) ⟨128 + (perm x).val, by omega⟩ j * Model.c2 := by
  unfold V V0
  simp only [List.flatten_cons, List.flatten_nil, List.append_nil]
  after_reads_at
  after_reads_at
  refine congrArg (fun t : EReal => t * Model.c2) (?_ : _ = (_ : EReal))
  refine (pick_row _ _ x j (perm x) ?_).trans ?_
  · exact (congrArg lit0 (Fin.ext (Shape.rowMajor_val_one _))).trans (ker_perm x)
  · pointwise

/-- The first layer's rows for the features. -/
theorem first_flat_main (x : Fin 128) (j : Fin 256) : (V m c main_v32 (ix2 x ⟨j.val, by omega⟩) : EReal) = mat (m (c, Proc.tc.devRef main_arg5)) ⟨x.val, by omega⟩ j * Model.c2 := by
  unfold V V0
  simp only [List.flatten_cons, List.flatten_nil, List.append_nil]
  after_reads_at
  after_reads_at

/-- The first layer's rows for the features. -/
theorem first_flat_aux (x : Fin 128) (j : Fin 256) : (V m c main_v32 (ix2 x ⟨256 + j.val, by omega⟩) : EReal) = mat (m (c, Proc.tc.devRef main_arg13)) ⟨x.val, by omega⟩ j * Model.c2 := by
  unfold V V0
  simp only [List.flatten_cons, List.flatten_nil, List.append_nil]
  after_reads_at
  after_reads_at

/-- The first layer's offsets. -/
theorem first_off_main (j : Fin 256) : (V m c main_v36 (ix2 0 ⟨j.val, by omega⟩) : EReal) = vec (m (c, Proc.tc.devRef main_arg6)) j * Model.c2 := by
  unfold V V0
  simp only [List.flatten_cons, List.flatten_nil, List.append_nil]
  after_reads_at
  after_reads_at

/-- The first layer's offsets. -/
theorem first_off_aux (j : Fin 256) : (V m c main_v36 (ix2 0 ⟨256 + j.val, by omega⟩) : EReal) = vec (m (c, Proc.tc.devRef main_arg14)) j * Model.c2 := by
  unfold V V0
  simp only [List.flatten_cons, List.flatten_nil, List.append_nil]
  after_reads_at
  after_reads_at

/-- The second layer's offsets. -/
theorem second_off_main (j : Fin 128) : (V m c main_v52 (ix2 0 ⟨j.val, by omega⟩) : EReal) = vec (m (c, Proc.tc.devRef main_arg8)) j * Model.c2 := by
  unfold V V0
  simp only [List.flatten_cons, List.flatten_nil, List.append_nil]
  after_reads_at
  after_reads_at

/-- The second layer's offsets. -/
theorem second_off_aux (j : Fin 128) : (V m c main_v52 (ix2 0 ⟨128 + j.val, by omega⟩) : EReal) = vec (m (c, Proc.tc.devRef main_arg16)) j * Model.c2 := by
  unfold V V0
  simp only [List.flatten_cons, List.flatten_nil, List.append_nil]
  after_reads_at
  after_reads_at

/-- The second layers' weights: the auxiliary network's below and to the right of the main one's, and zeros. -/
theorem second_at (x : Fin 512) (y : Fin 256) : (V m c main_v48 (ix2 x y) : EReal)
    = (if h : (256 ≤ x.val ∧ x.val - 256 < 256) ∧ (128 ≤ y.val ∧ y.val - 128 < 128) then
        mat (K := 256) (N := 128) (m (c, Proc.tc.devRef main_arg15)) ⟨x.val - 256, h.1.2⟩ ⟨y.val - 128, h.2.2⟩
      else if h : x.val < 256 ∧ y.val < 128 then
        mat (K := 256) (N := 128) (m (c, Proc.tc.devRef main_arg7)) ⟨x.val, h.1⟩ ⟨y.val, h.2⟩
      else 0) * Model.c2 := by
  unfold V V0
  simp only [List.flatten_cons, List.flatten_nil, List.append_nil]
  after_reads_at
  refine congrArg (fun t : EReal => t * Model.c2) (?_ : _ = (_ : EReal))
  refine (put_256 _ _ _ 256 128 ?_ ?_ _ _).trans (dite_congr rfl (fun _ => ?_) fun _ => ?_)
  · refine (congrArg BitVec.toInt (?_ : _ = 256#32)).trans (by decide)
    after_reads_at
  · refine (congrArg BitVec.toInt (?_ : _ = 128#32)).trans (by decide)
    after_reads_at
  · rfl
  · refine (put_256 _ _ _ 0 0 ?_ ?_ _ _).trans (dite_congr (by simp) (fun _ => ?_) fun _ => zero_bits)
    · refine (congrArg BitVec.toInt (?_ : _ = 0#32)).trans (by decide)
      after_reads_at
    · refine (congrArg BitVec.toInt (?_ : _ = 0#32)).trans (by decide)
      after_reads_at
    · rfl

/-- The main network's part. -/
theorem second_00 (k : Fin 256) (j : Fin 128) : (V m c main_v48 (ix2 ⟨k.val, by omega⟩ ⟨j.val, by omega⟩) : EReal) = mat (m (c, Proc.tc.devRef main_arg7)) k j * Model.c2 :=
  (second_at m c _ _).trans (congrArg (· * Model.c2)
    ((dif_neg (by simp <;> omega)).trans (dif_pos ⟨by simp, by simp⟩)))

/-- Zeros to its right. -/
theorem second_01 (k : Fin 256) (j : Fin 128) : (V m c main_v48 (ix2 ⟨k.val, by omega⟩ ⟨128 + j.val, by omega⟩) : EReal) = (0 : EReal) :=
  (second_at m c _ _).trans ((congrArg (· * Model.c2)
    ((dif_neg (by simp <;> omega)).trans (dif_neg (by simp <;> omega)))).trans (zero_mul _))

/-- Zeros below it. -/
theorem second_10 (k : Fin 256) (j : Fin 128) : (V m c main_v48 (ix2 ⟨256 + k.val, by omega⟩ ⟨j.val, by omega⟩) : EReal) = (0 : EReal) :=
  (second_at m c _ _).trans ((congrArg (· * Model.c2)
    ((dif_neg (by simp <;> omega)).trans (dif_neg (by simp <;> omega)))).trans (zero_mul _))

/-- The auxiliary network's part. -/
theorem second_11 (k : Fin 256) (j : Fin 128) : (V m c main_v48 (ix2 ⟨256 + k.val, by omega⟩ ⟨128 + j.val, by omega⟩) : EReal) = mat (m (c, Proc.tc.devRef main_arg15)) k j * Model.c2 :=
  (second_at m c _ _).trans (congrArg (· * Model.c2)
    ((dif_pos ⟨⟨by simp, by simp⟩, by simp, by simp⟩).trans (by simp)))

/-- The third layer's weights, the auxiliary output's below and to the right, and zeros. -/
theorem third_at (x : Fin 256) (y : Fin 72) : (V m c main_v64 (ix2 x y) : EReal)
    = if h : (128 ≤ x.val ∧ x.val - 128 < 128) ∧ (64 ≤ y.val ∧ y.val - 64 < 1) then
        mat (K := 128) (N := 1) (m (c, Proc.tc.devRef main_arg17)) ⟨x.val - 128, h.1.2⟩ ⟨y.val - 64, h.2.2⟩
      else if h : x.val < 128 ∧ y.val < 64 then
        mat (K := 128) (N := 64) (m (c, Proc.tc.devRef main_arg9)) ⟨x.val, h.1⟩ ⟨y.val, h.2⟩ * Model.c2
      else 0 := by
  unfold V V0
  simp only [List.flatten_cons, List.flatten_nil, List.append_nil]
  after_reads_at
  refine (put_1 _ _ _ 128 64 ?_ ?_ _ _).trans (dite_congr rfl (fun _ => ?_) fun _ => ?_)
  · refine (congrArg BitVec.toInt (?_ : _ = 128#32)).trans (by decide)
    after_reads_at
  · refine (congrArg BitVec.toInt (?_ : _ = 64#32)).trans (by decide)
    after_reads_at
  · rfl
  · refine (put_72 _ _ _ 0 0 ?_ ?_ _ _).trans (dite_congr (by simp) (fun _ => ?_) fun _ => zero_bits)
    · refine (congrArg BitVec.toInt (?_ : _ = 0#32)).trans (by decide)
      after_reads_at
    · refine (congrArg BitVec.toInt (?_ : _ = 0#32)).trans (by decide)
      after_reads_at
    · rfl

/-- The third layer's part. -/
theorem third_00 (k : Fin 128) (j : Fin 64) : (V m c main_v64 (ix2 ⟨k.val, by omega⟩ ⟨j.val, by omega⟩) : EReal) = mat (m (c, Proc.tc.devRef main_arg9)) k j * Model.c2 :=
  (third_at m c _ _).trans ((dif_neg (by simp <;> omega)).trans (dif_pos ⟨by simp, by simp⟩))

/-- Zeros below it. -/
theorem third_10 (k : Fin 128) (j : Fin 64) : (V m c main_v64 (ix2 ⟨128 + k.val, by omega⟩ ⟨j.val, by omega⟩) : EReal) = (0 : EReal) :=
  (third_at m c _ _).trans ((dif_neg (by simp <;> omega)).trans (dif_neg (by simp <;> omega)))

/-- Zeros to its right. -/
theorem third_01 (k : Fin 128) : (V m c main_v64 (ix2 ⟨k.val, by omega⟩ 64) : EReal) = (0 : EReal) :=
  (third_at m c _ _).trans ((dif_neg (by simp <;> omega)).trans (dif_neg (by simp <;> omega)))

/-- The auxiliary output's part. -/
theorem third_11 (k : Fin 128) : (V m c main_v64 (ix2 ⟨128 + k.val, by omega⟩ 64) : EReal) = mat (m (c, Proc.tc.devRef main_arg17)) k 0 :=
  (third_at m c _ _).trans ((dif_pos ⟨⟨by simp, by simp⟩, by simp, by simp⟩).trans (by simp))

/-- The third layer's offsets. -/
theorem third_off (j : Fin 64) : (V m c main_v100 (ix2 0 j) : EReal) = vec (m (c, Proc.tc.devRef main_arg10)) j * Model.c2 := by
  unfold V V0
  simp only [List.flatten_cons, List.flatten_nil, List.append_nil]
  after_reads_at

/-- The auxiliary offset. -/
theorem aux_off  : (V m c main_v101 (ix2 0 0) : EReal) = vec (m (c, Proc.tc.devRef main_arg18)) 0 := by
  unfold V V0
  simp only [List.flatten_cons, List.flatten_nil, List.append_nil]
  after_reads_at

/-- The last layer. -/
theorem last_at (x : Fin 64) : (V m c main_v68 (ix2 x 0) : EReal) = mat (m (c, Proc.tc.devRef main_arg11)) x 0 := by
  unfold V V0
  simp only [List.flatten_cons, List.flatten_nil, List.append_nil]
  after_reads_at
  refine (put_8 _ _ _ 0 ?_ _ _).trans ?_
  · rfl
  · exact dif_pos ⟨⟨by simp, by simp⟩, by simp, by simp⟩

/-- The last offset. -/
theorem last_off  : (V m c main_v102 (ix2 0 0) : EReal) = vec (m (c, Proc.tc.devRef main_arg12)) 0 := by
  unfold V V0
  simp only [List.flatten_cons, List.flatten_nil, List.append_nil]
  after_reads_at

end Cert.KerHost

end
-- ==== Proof.KerRow.lean ====
module

public import proofs.«01_k».proof.Proof.KerBlock
public import proofs.«01_k».proof.Proof.KerTab
public import proofs.«01_k».proof.Proof.KerHost
public import proofs.«01_k».proof.Proof.Goal

@[expose] public section

/-! One row of a block whose windows hold the host's arrays. -/

noncomputable section

namespace Cert.KerRow

open Idealize.ShloMosaic Idealize.ShloMosaic.TcCoe Cert.KernelIdeal Cert.KernelIdeal.Gen Cert.Tables

variable (m : (ℓ : Loc nD τ sig) → Buf (Elt Ideal) ℓ) (c : Dev nD)

/-- The logits the arguments give. -/
def logits (B : Fin 1024) (q : Fin 218) : EReal :=
  Goal.logits (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) B q

/-- The auxiliary values the arguments give. -/
def aux (B : Fin 1024) (q : Fin 218) : EReal :=
  Goal.aux (m (c, Proc.tc.devRef main_arg1)) (m (c, Proc.tc.devRef main_arg2)) (m (c, Proc.tc.devRef main_arg3)) (m (c, Proc.tc.devRef main_arg4)) (m (c, Proc.tc.devRef main_arg13)) (m (c, Proc.tc.devRef main_arg14)) (m (c, Proc.tc.devRef main_arg15)) (m (c, Proc.tc.devRef main_arg16)) (m (c, Proc.tc.devRef main_arg17)) (m (c, Proc.tc.devRef main_arg18)) B q

/-- The zero of the lanes. -/
abbrev zero : Ideal FTy.bf16 := Scalar.ofBits (F := Ideal) .bf16 0x0000#16
/-- The zeros of the suit columns. -/
abbrev zeros : FVec Ideal S3584x32 .f32 := constant (F := Ideal) S3584x32 .f32 (0x00000000#32)

theorem zero_eq : zero = (0 : EReal) := by simp [zero, Scalar.ofBits, Ideal.ofBits, Ideal.ieee]
theorem zeros_at (i : Fin 3584) (k : Fin 32) : (zeros (ix2 i k) : EReal) = 0 := by
  unfold zeros
  pointwise

theorem hand_lt (i : Fin 3584) : i.val / 224 < 16 := by omega
theorem card_lt (b : ℕ) (hb : b < 16) (h : Fin 8) : b * 8 + h.val < 128 := by omega
theorem slot_lt (B : Fin 1024) (h : Fin 8) : B.val * 8 + h.val < 8192 := by omega

variable (i : Fin 3584) (hq : i.val % 224 < 218)

/-- The tables hold what a row needs. -/
theorem row_ok : KerBlock.Row (V m c main_v84) (V m c main_v90) (V m c main_v94) (V m c main_v97) (V m c main_cst_2) (V m c main_cst_3) (V m c main_cst_4) (V m c main_cst_5) (V m c main_cst_6) (V m c main_cst_7) zero zeros i ⟨i.val / 224, hand_lt i⟩ (mask ⟨i.val % 224, hq⟩) where
  hz := zero_eq
  hzs := zeros_at i
  str := KerTab.str_at m c
  take := KerTab.take_at m c i hq
  left := KerTab.left_at m c i hq
  le := fun h => mask_le _ h
  seg := KerTab.seg_at m c
  segN := KerTab.segN_at m c
  sum := KerTab.sum_at m c
  thr := KerTab.thr_at m c
  coef := KerTab.coef_at m c
  need := KerTab.need_at m c i hq
  size := KerTab.size_at m c i hq
  size' := KerTab.size_at' m c i hq
  hand := fun x => (KerTab.hand_at m c i x).trans (by simp only [Fin.ext_iff])

variable (x0 : Vec Ideal S128x3 .i32) (x1 : Vec Ideal S16x128 .bf16) (B : Fin 1024)

/-- The first two windows hold hand `B` at the row's hand. -/
structure Hand : Prop where
  card : ∀ (h : Fin 8) (k : Fin 3), (x0 (ix2 ⟨i.val / 224 * 8 + h.val, card_lt _ (hand_lt i) h⟩ k) : BitVec 32)
    = V m c main_v4 (ix2 ⟨B.val * 8 + h.val, slot_lt B h⟩ k)
  flat : ∀ y, (x1 (ix2 ⟨i.val / 224, hand_lt i⟩ y) : EReal) = V m c main_v69 (ix2 B y)

variable {m c i x0 x1 B} (H : Hand m c i x0 x1 B)
include H

theorem ranks_eq : KerBlock.ranks x0 ⟨i.val / 224, hand_lt i⟩ = Goal.words (K := 1024) (N := 8) (m (c, Proc.tc.devRef main_arg2)) B := by
  funext h
  refine (H.card h 0).trans ((KerHost.rank_at m c _).trans ?_)
  refine congr (congrArg (KerHost.word _) (Fin.ext ?_)) (Fin.ext ?_) <;> show _ = _ <;> simp <;> omega
theorem suits_eq : KerBlock.suits x0 ⟨i.val / 224, hand_lt i⟩ = Goal.words (K := 1024) (N := 8) (m (c, Proc.tc.devRef main_arg3)) B := by
  funext h
  refine (H.card h 1).trans ((KerHost.suit_at m c _).trans ?_)
  refine congr (congrArg (KerHost.word _) (Fin.ext ?_)) (Fin.ext ?_) <;> show _ = _ <;> simp <;> omega
theorem enhs_eq : KerBlock.enhs x0 ⟨i.val / 224, hand_lt i⟩ = Goal.words (K := 1024) (N := 8) (m (c, Proc.tc.devRef main_arg4)) B := by
  funext h
  refine (H.card h 2).trans ((KerHost.enh_at m c _).trans ?_)
  refine congr (congrArg (KerHost.word _) (Fin.ext ?_)) (Fin.ext ?_) <;> show _ = _ <;> simp <;> omega
theorem flat_eq (y : Fin 128) : (x1 (ix2 ⟨i.val / 224, hand_lt i⟩ y) : EReal) = Goal.mat (K := 1024) (N := 128) (m (c, Proc.tc.devRef main_arg1)) B y :=
  (H.flat y).trans (KerHost.flat_at m c B y)

/-- The layers hold what the row's network needs. -/
theorem blocks_ok : KerNet.Blocks (Goal.row (m (c, Proc.tc.devRef main_arg1)) (m (c, Proc.tc.devRef main_arg2)) (m (c, Proc.tc.devRef main_arg3)) B ⟨i.val % 224, hq⟩)
    (Goal.mat (K := 194) (N := 256) (m (c, Proc.tc.devRef main_arg5))) (Goal.mat (K := 194) (N := 256) (m (c, Proc.tc.devRef main_arg13))) (Goal.vec (N := 256) (m (c, Proc.tc.devRef main_arg6))) (Goal.vec (N := 256) (m (c, Proc.tc.devRef main_arg14)))
    (Goal.mat (K := 256) (N := 128) (m (c, Proc.tc.devRef main_arg7))) (Goal.mat (K := 256) (N := 128) (m (c, Proc.tc.devRef main_arg15))) (Goal.vec (N := 128) (m (c, Proc.tc.devRef main_arg8))) (Goal.vec (N := 128) (m (c, Proc.tc.devRef main_arg16)))
    (Goal.mat (K := 128) (N := 64) (m (c, Proc.tc.devRef main_arg9))) (Goal.mat (K := 128) (N := 1) (m (c, Proc.tc.devRef main_arg17)))
    (KerBlock.first x0 x1 (V m c main_v84) (V m c main_v90) (V m c main_v94) (V m c main_v97) (V m c main_cst_2) (V m c main_cst_3) (V m c main_cst_4) (V m c main_cst_5) (V m c main_cst_6) (V m c main_cst_7) (V m c main_v32) (V m c main_v36) (V m c main_v26) zero zeros)
    (V m c main_v48) (V m c main_v52) (V m c main_v64) i where
  t0 := fun j => by
    refine (KerBlock.first_at (row_ok m c i hq) _ _ _ _ _ (flat_eq H) (KerHost.first_meta_main m c · j)
      (KerHost.first_flat_main m c · j) (KerHost.first_off_main m c j)).trans ?_
    rw [ranks_eq H, suits_eq H]
    rfl
  t1 := fun j => by
    refine (KerBlock.first_at (row_ok m c i hq) _ _ _ _ _ (flat_eq H) (KerHost.first_meta_aux m c · j)
      (KerHost.first_flat_aux m c · j) (KerHost.first_off_aux m c j)).trans ?_
    rw [ranks_eq H, suits_eq H]
    rfl
  w00 := KerHost.second_00 m c
  w01 := KerHost.second_01 m c
  w10 := KerHost.second_10 m c
  w11 := KerHost.second_11 m c
  o0 := KerHost.second_off_main m c
  o1 := KerHost.second_off_aux m c
  u00 := KerHost.third_00 m c
  u10 := KerHost.third_10 m c
  u01 := KerHost.third_01 m c
  u11 := KerHost.third_11 m c

/-- The row's logit. -/
theorem logit_at : (k0_pay2 (KerBlock.lanes x0 (V m c main_v84) (V m c main_cst_2) zero) (k0_pay17 (KerBlock.first x0 x1 (V m c main_v84) (V m c main_v90) (V m c main_v94) (V m c main_v97) (V m c main_cst_2) (V m c main_cst_3) (V m c main_cst_4) (V m c main_cst_5) (V m c main_cst_6) (V m c main_cst_7) (V m c main_v32) (V m c main_v36) (V m c main_v26) zero zeros) (V m c main_v48) (V m c main_v52) (V m c main_v64) (V m c main_v100)) (V m c main_v68) (V m c main_v102) (ix2 i 0) : EReal)
    = logits m c B ⟨i.val % 224, hq⟩ := by
  have K := blocks_ok hq H
  unfold Goal.row at K
  rw [← ranks_eq H, ← suits_eq H] at K
  refine (KerBlock.logit_at (row_ok m c i hq) K _ _ _ (KerHost.third_off m c) (KerHost.last_at m c) (KerHost.last_off m c)).trans ?_
  unfold logits Goal.logits Goal.valid Goal.row
  rw [ranks_eq H, suits_eq H, enhs_eq H]
  rfl

/-- The row's auxiliary value. -/
theorem aux_at : (k0_pay3 (KerBlock.lanes x0 (V m c main_v84) (V m c main_cst_2) zero) (k0_pay18 (KerBlock.first x0 x1 (V m c main_v84) (V m c main_v90) (V m c main_v94) (V m c main_v97) (V m c main_cst_2) (V m c main_cst_3) (V m c main_cst_4) (V m c main_cst_5) (V m c main_cst_6) (V m c main_cst_7) (V m c main_v32) (V m c main_v36) (V m c main_v26) zero zeros) (V m c main_v48) (V m c main_v52) (V m c main_v64) (V m c main_v101)) (ix2 i 0) : EReal)
    = aux m c B ⟨i.val % 224, hq⟩ := by
  have K := blocks_ok hq H
  unfold Goal.row at K
  rw [← ranks_eq H, ← suits_eq H] at K
  refine (KerBlock.aux_at (row_ok m c i hq) K _ (KerHost.aux_off m c)).trans ?_
  unfold aux Goal.aux Goal.valid Goal.row
  rw [ranks_eq H, suits_eq H, enhs_eq H]
  rfl

end Cert.KerRow

end
-- ==== Proof.KerArr.lean ====
module

public import proofs.«01_k».proof.Proof.KerBlk
public import proofs.«01_k».proof.Proof.KerRow

@[expose] public section

set_option maxRecDepth 16384

/-! What the two output arrays hold after the run. -/

noncomputable section

namespace Cert.KerArr

open Idealize.ShloMosaic Idealize.ShloMosaic.TcCoe Cert.KernelIdeal Cert.KernelIdeal.Gen

section
variable (x0 : Vec Ideal S128x3 .i32) (x1 : Vec Ideal S16x128 .bf16) (x2 : Vec Ideal S3584x256 .bf16) (x3 : Vec Ideal S3584x16 .bf16) (x4 : Vec Ideal S3584x2 .bf16) (x5 : Vec Ideal S3584x16 .f32) (x6 : Vec Ideal S16x14 .bf16) (x7 : Vec Ideal S128x32 .bf16) (x8 : Vec Ideal S1x32 .f32) (x9 : Vec Ideal S384x32 .bf16) (x10 : Vec Ideal S1x32 .f32) (x11 : Vec Ideal S32x16 .bf16) (x12 : Vec Ideal S128x512 .bf16) (x13 : Vec Ideal S1x512 .f32) (x14 : Vec Ideal S66x512 .bf16) (x15 : Vec Ideal S512x256 .bf16) (x16 : Vec Ideal S1x256 .f32) (x17 : Vec Ideal S256x72 .bf16) (x18 : Vec Ideal S1x64 .f32) (x19 : Vec Ideal S1x1 .f32) (x20 : Vec Ideal S64x8 .bf16) (x21 : Vec Ideal S1x1 .f32)

/-- The lanes' payload without its loads. -/
theorem pay23_eq : k0_pay23 x0 x1 x2 x3 x4 x5 x6 x7 x8 x9 x10 x11 x12 x13 x14 x15 x16 x17 x18 x19 x20 x21 = KerBlock.lanes x0 x2 x6 KerRow.zero := by
  unfold k0_pay23 k0_pay22 k0_pay21 k0_pay20 k0_pay19
  simp (disch := decide) only [View.ld_unit_lit']

/-- The first layer's payload without its loads. -/
theorem pay24_eq : k0_pay24 x0 x1 x2 x3 x4 x5 x6 x7 x8 x9 x10 x11 x12 x13 x14 x15 x16 x17 x18 x19 x20 x21 = KerBlock.first x0 x1 x2 x3 x4 x5 x6 x7 x8 x9 x10 x11 x12 x13 x14 KerRow.zero KerRow.zeros := by
  unfold k0_pay24 k0_pay22 k0_pay21 k0_pay20 k0_pay19
  simp (disch := decide) only [View.ld_unit_lit']
end

theorem block_lt (y : Fin 229376) : y.val / 3584 < 64 := by omega
theorem row_lt (B : Fin 1024) (q : Fin 218) : B.val * 224 + q.val < 229376 := by omega

variable (m : (ℓ : Loc nD τ sig) → Buf (Elt Ideal) ℓ) (c : Dev nD)

/-- An array of 64 blocks of 3584 rows. -/
def stack (f : Fin cfg0.N → Vec Ideal S3584x1 .f32) : Vec Ideal S229376x1 .f32 := fun y =>
  f ⟨(y 0).val / 3584, block_lt (y 0)⟩ (ix2 ⟨(y 0).val % 3584, Nat.mod_lt _ (by decide)⟩ 0)

/-- Such an array at a row of its block `t`. -/
theorem stack_at (f : Fin cfg0.N → Vec Ideal S3584x1 .f32) (t : Fin cfg0.N) (y : S3584x1.Idx) (i : S229376x1.Idx)
    (e : (i 0).val = t.val * 3584 + (y 0).val) : f t y = stack f i := by
  have hy : (y 0).val < 3584 := (y 0).isLt
  unfold stack
  refine congr (congrArg f (Fin.ext ?_)) (funext fun z => ?_)
  · show t.val = _ / 3584
    rw [e]; omega
  · fin_cases z
    · refine Fin.ext ?_
      show (y 0).val = _ % 3584
      rw [e]; omega
    · exact Fin.ext (Nat.lt_one_iff.1 (y 1).isLt)

/-- The row of the array for hand `B` and play `q`, if it is `g` of the play at each row of the block that holds hand `B`. -/
theorem stack_row (f : Fin cfg0.N → Vec Ideal S3584x1 .f32) (g : Fin 218 → EReal) (B : Fin 1024) (q : Fin 218)
    (h : ∀ (t : Fin cfg0.N) (i : Fin 3584) (hq : i.val % 224 < 218),
      KerRow.Hand m c i (iblk m c 0 t) (iblk m c 1 t) B → (f t (ix2 i 0) : EReal) = g ⟨i.val % 224, hq⟩) :
    (stack f (ix2 ⟨B.val * 224 + q.val, row_lt B q⟩ 0) : EReal) = g q := by
  have hq : ((B.val * 224 + q.val) % 3584) % 224 = q.val := by omega
  have hB : ((B.val * 224 + q.val) / 3584) * 16 + ((B.val * 224 + q.val) % 3584) / 224 = B.val := by omega
  have hb : ((B.val * 224 + q.val) % 3584) / 224 < 16 := by omega
  show f ⟨(B.val * 224 + q.val) / 3584, _⟩ (ix2 ⟨(B.val * 224 + q.val) % 3584, _⟩ 0) = _
  generalize hT : (⟨(B.val * 224 + q.val) / 3584, block_lt ⟨B.val * 224 + q.val, row_lt B q⟩⟩ : Fin cfg0.N) = t
  have ht : t.val = (B.val * 224 + q.val) / 3584 := by rw [← hT]
  refine (h t ⟨(B.val * 224 + q.val) % 3584, Nat.mod_lt _ (by decide)⟩
    (show ((B.val * 224 + q.val) % 3584) % 224 < 218 by omega) ⟨fun h k => ?_, fun y => ?_⟩).trans ?_
  · refine (KerBlk.blk_0 m c t _ _ (by show t.val * 128 + (((B.val * 224 + q.val) % 3584) / 224 * 8 + h.val) < 8192; omega)).trans ?_
    refine congrArg (fun x => V m c main_v4 (ix2 x k)) (Fin.ext ?_)
    show t.val * 128 + (((B.val * 224 + q.val) % 3584) / 224 * 8 + h.val) = B.val * 8 + h.val
    omega
  · refine (KerBlk.blk_1 m c t _ _ (by show t.val * 16 + ((B.val * 224 + q.val) % 3584) / 224 < 1024; omega)).trans ?_
    refine congrArg (fun x => V m c main_v69 (ix2 x y)) (Fin.ext ?_)
    show t.val * 16 + ((B.val * 224 + q.val) % 3584) / 224 = B.val
    omega
  · exact congrArg g (Fin.ext hq)

/-- The block that window 22 writes. -/
def out_22 (t : Fin cfg0.N) : Vec Ideal S3584x1 .f32 :=
  k0_pay2 (k0_pay23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)) (k0_pay17 (k0_pay24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)) (iblk m c 15 t) (iblk m c 16 t) (iblk m c 17 t) (iblk m c 18 t)) (iblk m c 20 t) (iblk m c 21 t)

theorem index_22 : ∀ t : Fin cfg0.N, (win0_22.index t 0 : ℕ) = t.val :=
  (by decide +kernel : ∀ t : Fin grid0.N, _)

/-- The array that window 22 writes, after the run: its blocks. -/
theorem arr_22 : (dats m 0 c).arrAt 22 cfg0.N = stack (out_22 m c) := by
  refine (dats m 0 c).arrAt_eq_of_covers 22 (stack (out_22 m c)) (by decide +kernel) fun t hf y => ?_
  blk_simp
  rw [after0_22]
  frame_out
  blk_simp
  refine stack_at (out_22 m c) t y _ ?_
  blk_simp
  show win0_22.index t 0 * 3584 + (y 0).val = _
  rw [index_22 t]

/-- Its row for hand `B` and play `q`. -/
theorem all_22_at (B : Fin 1024) (q : Fin 218) :
    (stack (out_22 m c) (ix2 ⟨B.val * 224 + q.val, row_lt B q⟩ 0) : EReal) = KerRow.logits m c B q :=
  stack_row m c (out_22 m c) (KerRow.logits m c B) B q fun t i hq H => by
    unfold out_22
    rw [pay23_eq, pay24_eq]
    simp only [KerBlk.blk_2, KerBlk.blk_3, KerBlk.blk_4, KerBlk.blk_5, KerBlk.blk_6, KerBlk.blk_7, KerBlk.blk_8, KerBlk.blk_9, KerBlk.blk_10, KerBlk.blk_11, KerBlk.blk_12, KerBlk.blk_13, KerBlk.blk_14, KerBlk.blk_15, KerBlk.blk_16, KerBlk.blk_17, KerBlk.blk_18, KerBlk.blk_20, KerBlk.blk_21]
    exact KerRow.logit_at hq H

/-- The block that window 23 writes. -/
def out_23 (t : Fin cfg0.N) : Vec Ideal S3584x1 .f32 :=
  k0_pay3 (k0_pay23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)) (k0_pay18 (k0_pay24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)) (iblk m c 15 t) (iblk m c 16 t) (iblk m c 17 t) (iblk m c 19 t))

theorem index_23 : ∀ t : Fin cfg0.N, (win0_23.index t 0 : ℕ) = t.val :=
  (by decide +kernel : ∀ t : Fin grid0.N, _)

/-- The array that window 23 writes, after the run: its blocks. -/
theorem arr_23 : (dats m 0 c).arrAt 23 cfg0.N = stack (out_23 m c) := by
  refine (dats m 0 c).arrAt_eq_of_covers 23 (stack (out_23 m c)) (by decide +kernel) fun t hf y => ?_
  blk_simp
  rw [after0_23]
  frame_out
  blk_simp
  refine stack_at (out_23 m c) t y _ ?_
  blk_simp
  show win0_23.index t 0 * 3584 + (y 0).val = _
  rw [index_23 t]

/-- Its row for hand `B` and play `q`. -/
theorem all_23_at (B : Fin 1024) (q : Fin 218) :
    (stack (out_23 m c) (ix2 ⟨B.val * 224 + q.val, row_lt B q⟩ 0) : EReal) = KerRow.aux m c B q :=
  stack_row m c (out_23 m c) (KerRow.aux m c B) B q fun t i hq H => by
    unfold out_23
    rw [pay23_eq, pay24_eq]
    simp only [KerBlk.blk_2, KerBlk.blk_3, KerBlk.blk_4, KerBlk.blk_5, KerBlk.blk_6, KerBlk.blk_7, KerBlk.blk_8, KerBlk.blk_9, KerBlk.blk_10, KerBlk.blk_11, KerBlk.blk_12, KerBlk.blk_13, KerBlk.blk_14, KerBlk.blk_15, KerBlk.blk_16, KerBlk.blk_17, KerBlk.blk_19]
    exact KerRow.aux_at hq H

end Cert.KerArr

end
-- ==== Proof.KerRun.lean ====
module

public import proofs.«01_k».proof.Proof.KerArr
public import Idealize.ShloMosaic.Lib.StableHlo.ReadAt

@[expose] public section

set_option maxRecDepth 16384

/-! What the kernel's program ends holding in its two results. -/

noncomputable section

namespace Cert.KerRun

open Idealize.ShloMosaic Idealize.ShloMosaic.TcCoe Idealize.SL.Sem Cert.KernelIdeal Cert.KernelIdeal.Gen

variable (m : (ℓ : Loc nD τ sig) → Buf (Elt Ideal) ℓ) (c : Dev nD)

/-- What the lines after the launch make of window 22's array. -/
theorem tail_logit (B : Fin 1024) (q : Fin 218) (G : Vec Ideal S229376x1 .f32)
    (h : (dats m 0 c).arrAt 22 cfg0.N = G) : (Pipeline.afterTail₀ cfgs (dats m) 0 (V0 m) [hostOps1] c main_v105 (ix2 B q) : EReal)
    = G (ix2 ⟨B.val * 224 + q.val, KerArr.row_lt B q⟩ 0) := by
  unfold Pipeline.afterTail₀
  simp only [List.flatten_cons, List.flatten_nil, List.append_nil]
  after_reads_at
  refine (congrFun (Pipeline.withArrays_arr spec0 (by decide) c (V0 m c) (fun w => (dats m 0 c).arrAt w (cfgs 0).N) 22) _).trans ?_
  exact congrFun h _

/-- What the lines after the launch make of window 23's array. -/
theorem tail_aux (B : Fin 1024) (q : Fin 218) (z : Fin 1) (G : Vec Ideal S229376x1 .f32)
    (h : (dats m 0 c).arrAt 23 cfg0.N = G) : (Pipeline.afterTail₀ cfgs (dats m) 0 (V0 m) [hostOps1] c main_v108 (ix3 B q z) : EReal)
    = G (ix2 ⟨B.val * 224 + q.val, KerArr.row_lt B q⟩ 0) := by
  unfold Pipeline.afterTail₀
  simp only [List.flatten_cons, List.flatten_nil, List.append_nil]
  after_reads_at
  refine (congrFun (Pipeline.withArrays_arr spec0 (by decide) c (V0 m c) (fun w => (dats m 0 c).arrAt w (cfgs 0).N) 23) _).trans ?_
  exact congrFun h _

/-- The logits as an array. -/
def logits : Vec Ideal S1024x218 .f32 := fun y => KerRow.logits m c (y 0) (y 1)
/-- The auxiliary values as an array. -/
def aux : Vec Ideal S1024x218x1 .f32 := fun y => KerRow.aux m c (y 0) (y 1)

/-- The first result. -/
theorem logits_eq : Pipeline.afterTail₀ cfgs (dats m) 0 (V0 m) [hostOps1] c main_v105 = logits m c := by
  funext y
  have e : y = ix2 (y 0) (y 1) := by funext z; fin_cases z <;> rfl
  rw [e]
  exact (tail_logit m c (y 0) (y 1) _ (KerArr.arr_22 m c)).trans (KerArr.all_22_at m c (y 0) (y 1))

/-- The second result. -/
theorem aux_eq : Pipeline.afterTail₀ cfgs (dats m) 0 (V0 m) [hostOps1] c main_v108 = aux m c := by
  funext y
  have e : y = ix3 (y 0) (y 1) (y 2) := by funext z; fin_cases z <;> rfl
  rw [e]
  exact (tail_aux m c (y 0) (y 1) (y 2) _ (KerArr.arr_23 m c)).trans (KerArr.all_23_at m c (y 0) (y 1))

/-- The run. -/
theorem run (ρ : Dev nD → PrngReg) : θ_run defs (onTc (τ := τ) (main (F := Ideal))) ⟨m, fun _ => 0, ρ⟩ fun r => ∀ c : Dev nD,
    r.2.mem ((c.tc : Thread nD τ).loc main_v105) = logits m c ∧ r.2.mem ((c.tc : Thread nD τ).loc main_v108) = aux m c :=
  (θ_run defs _ _).mono (fun _ h c => ⟨((h c).2 main_v105 (by decide)).trans (logits_eq m c),
    ((h c).2 main_v108 (by decide)).trans (aux_eq m c)⟩) (run_main m ρ)

end Cert.KerRun

end
-- ==== Proof.RefMeta.lean ====
module

public import proofs.«01_k».proof.Proof.Gen.ReferenceIdeal.Run
public import proofs.«01_k».proof.Proof.Tables
public import Idealize.ShloMosaic.Lib.Pointwise
public import Idealize.ShloMosaic.Lib.Tactic.CleanTypes

@[expose] public section

set_option maxRecDepth 16384

/-! The metadata that the reference computes, as the natural numbers of the model. -/

noncomputable section

namespace Cert.RefMeta

open Idealize.ShloMosaic Idealize.SL.Sem Cert.ReferenceIdeal Cert.ReferenceIdeal.Value Cert.Cast Cert.Tables

variable (V : Valuation τ sig (Elt Ideal))

/-- The hand's ranks. -/
def rk (b : Fin 1024) (h : Fin 8) : BitVec 32 := V (Proc.devRef .tc main_arg2) (ix2 b h)
/-- The hand's suits. -/
def su (b : Fin 1024) (h : Fin 8) : BitVec 32 := V (Proc.devRef .tc main_arg3) (ix2 b h)
/-- The hand's enhancements. -/
def en (b : Fin 1024) (h : Fin 8) : BitVec 32 := V (Proc.devRef .tc main_arg4) (ix2 b h)

/-- The cards left. -/
abbrev left (m : Fin 218) : Fin 8 → ℕ := Model.rest (mask m)

/-- The mask table. -/
theorem cst_at (m : Fin 218) (h : Fin 8) : (res_main_cst V (ix2 m h) : EReal) = ((mask m h : ℕ) : EReal) := by
  have e : S218x8.rowMajor (ix2 m h) = ⟨m.val * 8 + h.val, by show _ < 1744; omega⟩ := Fin.ext (Shape.rowMajor_val_two _)
  unfold res_main_cst
  show Ideal.ofBits .f32 (lit0 (S218x8.rowMajor (ix2 m h))) = _
  refine (congrArg (Ideal.ofBits .f32) ((congrArg lit0 e).trans (ref_mask m h))).trans ?_
  exact ofBits_fword _ (by have := mask_le m h; interval_cases (mask m h) <;> rfl)

/-- The mask of the cards left. -/
theorem v1_at (m : Fin 218) (h : Fin 8) : (res_main_v1 V (ix2 m h) : EReal) = ((left m h : ℕ) : EReal) := by
  unfold res_main_v1
  clean_types
  pointwise
  rw [cst_at]
  have := mask_le m h
  simp only [left, Model.rest]
  interval_cases (mask m h)
  · simp
  · simp only [Nat.cast_one, Nat.sub_self, Nat.cast_zero]
    exact EReal.sub_self (by decide) (by decide)

/-- The straights. -/
theorem cst0_at (s : Fin 10) (c : Fin 14) :
    (res_main_cst_0 V (ix2 s c) : EReal) = ((Model.straight s c : ℕ) : EReal) := by
  have e : S10x14.rowMajor (ix2 s c) = ⟨s.val * 14 + c.val, by show _ < 140; omega⟩ := Fin.ext (Shape.rowMajor_val_two _)
  unfold res_main_cst_0
  show Ideal.ofBits .f32 (lit1 (S10x14.rowMajor (ix2 s c))) = _
  refine (congrArg (Ideal.ofBits .f32) ((congrArg lit1 e).trans (ref_straight s c))).trans ?_
  exact ofBits_fword _ (by unfold Model.straight; split <;> split <;> rfl)

/-- A class count with the zero class dropped. -/
theorem count_at {n : ℕ} (hn : n < 2 ^ 32) (x : Fin 8 → BitVec 32) (k : Fin 8 → EReal) (w : Fin 8 → ℕ)
    (hk : ∀ h, k h = ((w h : ℕ) : EReal)) (c : Fin n) (z : EReal) (hz : z = 0) :
    Scalar.select (IntOp.cmpi CmpIPredicate.eq (BitVec.ofNat 32 c.val) 0#32) z
      (∑ h, FloatOps.uitofp (F := Ideal) FTy.f32 (IntOp.cmpi CmpIPredicate.eq (x h) (BitVec.ofNat 32 c.val)) * k h)
      = ((Model.cnt n w x c : ℕ) : EReal) := by
  rw [cmpi_eq, select_bool]
  have hc : (BitVec.ofNat 32 c.val = 0#32) ↔ c.val = 0 := by
    rw [← BitVec.toNat_inj]; simp; have := c.isLt; omega
  unfold Model.cnt
  by_cases h0 : c.val = 0
  · rw [if_pos (by simpa using hc.2 h0), if_pos h0, hz]; simp
  · rw [if_neg (by simpa using fun e => h0 (hc.1 e)), if_neg h0, ← cast_dot]
    refine Finset.sum_congr rfl fun h _ => ?_
    rw [cmpi_eq, uitofp_bool, hk]
    congr 2
    by_cases e : x h = BitVec.ofNat 32 c.val <;> simp [e]

/-- Counts of the ranks taken. -/
theorem v27_at (b : Fin 1024) (m : Fin 218) (c : Fin 14) :
    (res_main_v27 V (ix3 b m c) : EReal) = ((Model.cnt 14 (mask m) (rk V b) c : ℕ) : EReal) := by
  unfold res_main_v27
  clean_types
  pointwise
  exact count_at (by decide) (rk V b) _ (mask m) (cst_at V m) c _ (by simp [constant])

/-- Counts of the ranks left. -/
theorem v131_at (b : Fin 1024) (m : Fin 218) (c : Fin 14) :
    (res_main_v131 V (ix3 b m c) : EReal) = ((Model.cnt 14 (left m) (rk V b) c : ℕ) : EReal) := by
  unfold res_main_v131
  clean_types
  pointwise
  exact count_at (by decide) (rk V b) _ (left m) (v1_at V m) c _ (by simp [constant])

/-- Counts of the suits taken. -/
theorem v40_at (b : Fin 1024) (m : Fin 218) (c : Fin 6) :
    (res_main_v40 V (ix3 b m c) : EReal) = ((Model.cnt 6 (mask m) (su V b) c : ℕ) : EReal) := by
  unfold res_main_v40
  clean_types
  pointwise
  exact count_at (by decide) (su V b) _ (mask m) (cst_at V m) c _ (by simp [constant])

/-- Counts of the suits left. -/
theorem v144_at (b : Fin 1024) (m : Fin 218) (c : Fin 6) :
    (res_main_v144 V (ix3 b m c) : EReal) = ((Model.cnt 6 (left m) (su V b) c : ℕ) : EReal) := by
  unfold res_main_v144
  clean_types
  pointwise
  exact count_at (by decide) (su V b) _ (left m) (v1_at V m) c _ (by simp [constant])

/-- How many cards are taken. -/
theorem v43_at (b : Fin 1024) (m : Fin 218) :
    (res_main_v43 V (ix2 b m) : EReal) = ((Model.size (mask m) : ℕ) : EReal) := by
  unfold res_main_v43
  clean_types
  pointwise
  simp only [cst_at]
  exact cast_sum _ _

/-- How many cards are left. -/
theorem v147_at (b : Fin 1024) (m : Fin 218) :
    (res_main_v147 V (ix2 b m) : EReal) = ((Model.size (left m) : ℕ) : EReal) := by
  unfold res_main_v147
  clean_types
  pointwise
  simp only [v1_at]
  exact cast_sum _ _

/-- The greatest count of one rank taken. -/
theorem v44_at (b : Fin 1024) (m : Fin 218) :
    (res_main_v44 V (ix2 b m) : EReal) = ((Model.maxRank (mask m) (rk V b) : ℕ) : EReal) := by
  unfold res_main_v44
  clean_types
  pointwise
  simp only [v27_at]
  exact fold_max (by decide) _ _ bits_bot

/-- The greatest count of one rank left. -/
theorem v148_at (b : Fin 1024) (m : Fin 218) :
    (res_main_v148 V (ix2 b m) : EReal) = ((Model.maxRank (left m) (rk V b) : ℕ) : EReal) := by
  unfold res_main_v148
  clean_types
  pointwise
  simp only [v131_at]
  exact fold_max (by decide) _ _ bits_bot

/-- How many ranks occur, as a word. -/
theorem count_word (w : Fin 8 → ℕ) (r : Fin 8 → BitVec 32) (k : ℕ) (p : Fin 14 → Bool)
    (hp : ∀ x, p x = decide (k ≤ Model.cnt 14 w r x)) :
    Finset.univ.fold IntOp.addi (0#32) (fun x => BitVec.setWidth 32 (BitVec.ofBool (p x)))
      = BitVec.ofNat 32 (Model.atLeast w r k) := by
  rw [fold_count]
  congr 1
  unfold Model.atLeast
  refine Finset.sum_congr rfl fun x _ => ?_
  rw [hp]; simp

/-- At most 14 ranks occur. -/
theorem atLeast_le (w : Fin 8 → ℕ) (r : Fin 8 → BitVec 32) (k : ℕ) : Model.atLeast w r k ≤ 14 := by
  unfold Model.atLeast
  calc _ ≤ ∑ _c : Fin 14, 1 := Finset.sum_le_sum fun c _ => by split <;> omega
    _ = 14 := by simp

/-- How many ranks are taken. -/
theorem v49_at (b : Fin 1024) (m : Fin 218) :
    (res_main_v49 V (ix2 b m) : EReal) = ((Model.atLeast (mask m) (rk V b) 1 : ℕ) : EReal) := by
  unfold res_main_v49
  clean_types
  pointwise
  simp only [v27_at]
  rw [count_word (mask m) (rk V b) 1 _ fun x => decide_eq_decide.2 (cast_pos _)]
  exact sitofp_word _ (by have := atLeast_le (mask m) (rk V b) 1; omega)

/-- How many ranks are left. -/
theorem v153_at (b : Fin 1024) (m : Fin 218) :
    (res_main_v153 V (ix2 b m) : EReal) = ((Model.atLeast (left m) (rk V b) 1 : ℕ) : EReal) := by
  unfold res_main_v153
  clean_types
  pointwise
  simp only [v131_at]
  rw [count_word (left m) (rk V b) 1 _ fun x => decide_eq_decide.2 (cast_pos _)]
  exact sitofp_word _ (by have := atLeast_le (left m) (rk V b) 1; omega)

/-- A greatest entry along the last axis, an entry of that axis added. -/
theorem top_plus (Z : FVec Ideal S1024x218x6 .f32) (b : Fin 1024) (m : Fin 218) (f : Fin 6 → ℕ)
    (hf : ∀ c, (Z (ix3 b m c) : EReal) = ((f c : ℕ) : EReal)) :
    (addf (Host.reduce FloatOps.maximumf Z (constant S_ .f32 0xFF800000#32) Gen.reducesTo_S1024x218x6_S1024x218_d2 Gen.h_S_)
      (shapeCast S1024x218 (extractStridedSlice S1024x218x1 ![0, 0, 5] Z Gen.slices_S1024x218x6_S1024x218x1_0_0_5)
        Gen.shapeCasts_S1024x218x1_S1024x218) (ix2 b m) : EReal) = ((Finset.univ.sup f + f 5 : ℕ) : EReal) := by
  pointwise
  simp only [hf]
  rw [fold_max (by decide) f _ bits_bot, Nat.cast_add]

/-- The greatest count of one suit taken, wild cards added. -/
theorem v53_at (b : Fin 1024) (m : Fin 218) :
    (res_main_v53 V (ix2 b m) : EReal) = ((Model.maxSuit (mask m) (su V b) : ℕ) : EReal) :=
  top_plus _ b m _ (v40_at V b m)

/-- The greatest count of one suit left, wild cards added. -/
theorem v157_at (b : Fin 1024) (m : Fin 218) :
    (res_main_v157 V (ix2 b m) : EReal) = ((Model.maxSuit (left m) (su V b) : ℕ) : EReal) :=
  top_plus _ b m _ (v144_at V b m)

/-- The greatest number of cards taken on one straight. -/
theorem v55_at (b : Fin 1024) (m : Fin 218) :
    (res_main_v55 V (ix2 b m) : EReal) = ((Model.maxHits (mask m) (rk V b) : ℕ) : EReal) := by
  unfold res_main_v55
  clean_types
  pointwise
  simp only [v27_at, cst0_at, cast_dot]
  exact fold_max (by decide) (Model.hits (mask m) (rk V b)) _ bits_bot

/-- The greatest number of cards left on one straight. -/
theorem v159_at (b : Fin 1024) (m : Fin 218) :
    (res_main_v159 V (ix2 b m) : EReal) = ((Model.maxHits (left m) (rk V b) : ℕ) : EReal) := by
  unfold res_main_v159
  clean_types
  pointwise
  simp only [v131_at, cst0_at, cast_dot]
  exact fold_max (by decide) (Model.hits (left m) (rk V b)) _ bits_bot

/-- Whether the play is valid. -/
theorem v14_at (b : Fin 1024) (m : Fin 218) : (res_main_v14 V (ix2 b m) : BitVec 1)
    = BitVec.ofBool (decide (Model.invalid (mask m) (rk V b) (su V b) (en V b) = 0)) := by
  unfold res_main_v14
  clean_types
  pointwise
  have e : (∑ h, FloatOps.uitofp (F := Ideal) FTy.f32 (IntOp.andi (IntOp.andi
        (IntOp.cmpi CmpIPredicate.eq (rk V b h) 0#32) (IntOp.cmpi CmpIPredicate.eq (su V b h) 0#32))
        (IntOp.cmpi CmpIPredicate.eq (en V b h) 0#32)) * res_main_cst V (ix2 m h))
      = ((Model.invalid (mask m) (rk V b) (su V b) (en V b) : ℕ) : EReal) := by
    unfold Model.invalid
    rw [← cast_dot]
    refine Finset.sum_congr rfl fun h _ => ?_
    rw [cmpi_eq, cmpi_eq, cmpi_eq, andi_bool, andi_bool, uitofp_bool, cst_at]
    congr 2
    by_cases h1 : rk V b h = 0#32 <;> by_cases h2 : su V b h = 0#32 <;> by_cases h3 : en V b h = 0#32 <;> simp [h1, h2, h3]
  refine (congrArg (fun t : EReal => ~~~BitVec.ofBool (decide (0 < t))) e).trans ?_
  show ~~~BitVec.ofBool (decide (0 < ((Model.invalid (mask m) (rk V b) (su V b) (en V b) : ℕ) : EReal))) = _
  rw [not_bool]
  congr 1
  simp only [cast_pos]
  generalize Model.invalid (mask m) (rk V b) (su V b) (en V b) = n
  rcases Nat.eq_zero_or_pos n with h | h
  · subst h; rfl
  · have h1 : n ≠ 0 := by omega
    have h2 : 1 ≤ n := h
    simp [h1, h2]

end Cert.RefMeta

end
-- ==== Proof.RefRow.lean ====
module

public import proofs.«01_k».proof.Proof.Gen.ReferenceIdeal.Run
public import proofs.«01_k».proof.Proof.Cast
public import Idealize.ShloMosaic.Lib.Pointwise
public import Idealize.ShloMosaic.Lib.Tactic.CleanTypes

@[expose] public section

set_option maxRecDepth 16384

/-! One half's 33 metadata entries as the reference stacks them, from the counts and their summaries; and the layers of its
    network. -/

noncomputable section

namespace Cert.RefRow

open Idealize.ShloMosaic Idealize.SL.Sem Cert.ReferenceIdeal Cert.ReferenceIdeal.Value Cert.ReferenceIdeal.Gen Cert.Cast

section
variable (Z K T N H : FVec Ideal S1024x218 .f32) (C : FVec Ideal S1024x218x14 .f32) (D : FVec Ideal S1024x218x6 .f32)

/-- At least the number. -/
abbrev ge (X : FVec Ideal S1024x218 .f32) (k : BitVec 32) : IVec S1024x218 1 :=
  cmpf .oge X (broadcastInDim S1024x218 ![] bcast_S_S1024x218 (constant S_ .f32 k))

/-- Equal to the number. -/
abbrev eq (X : FVec Ideal S1024x218 .f32) (k : BitVec 32) : IVec S1024x218 1 :=
  cmpf .oeq X (broadcastInDim S1024x218 ![] bcast_S_S1024x218 (constant S_ .f32 k))

/-- Two ranks occur twice. -/
abbrev twice : IVec S1024x218 1 :=
  cmpi .eq (Host.reduce IntOp.addi (extui 32 (cmpf .oge C (broadcastInDim S1024x218x14 ![] bcast_S_S1024x218x14
    (constant S_ .f32 0x40000000#32))) natLt_1_32) (constantI S_ 32 0#32) reducesTo_S1024x218x14_S1024x218_d2 h_S_)
    (broadcastInDim S1024x218 ![] bcast_S_S1024x218 (constantI S_ 32 2#32))

/-- A bit as a column. -/
abbrev col (X : IVec S1024x218 1) : IVec S1024x218x1 1 :=
  broadcastInDim S1024x218x1 ![0, 1] bcast_S1024x218_S1024x218x1_0_1 X

/-- A number as a column. -/
abbrev colf (X : FVec Ideal S1024x218 .f32) : FVec Ideal S1024x218x1 .f32 :=
  broadcastInDim S1024x218x1 ![0, 1] bcast_S1024x218_S1024x218x1_0_1 X

/-- Three of a kind. -/
abbrev three : IVec S1024x218 1 := andi (ge Z 0x40400000#32) (ge K 0x40400000#32)
/-- Four of a kind. -/
abbrev four : IVec S1024x218 1 := andi (ge Z 0x40800000#32) (ge K 0x40800000#32)
/-- A straight. -/
abbrev run5 : IVec S1024x218 1 := andi (andi (ge Z 0x40A00000#32) (eq H 0x40A00000#32)) (ge N 0x40A00000#32)
/-- A flush. -/
abbrev flush : IVec S1024x218 1 := andi (ge Z 0x40A00000#32) (ge T 0x40A00000#32)
/-- A full house. -/
abbrev full : IVec S1024x218 1 :=
  andi (andi (andi (ge Z 0x40A00000#32) (three Z K)) (noti (four Z K))) (eq N 0x40000000#32)

/-- The eight flags, stacked. -/
abbrev flags : FVec Ideal S1024x218x8 .f32 :=
  uitofp .f32 (concatenate S1024x218x8 2 [⟨S1024x218x1, col (andi (ge Z 0x40000000#32) (ge K 0x40000000#32))⟩,
    ⟨S1024x218x1, col (three Z K)⟩, ⟨S1024x218x1, col (four Z K)⟩, ⟨S1024x218x1, col (full Z K N)⟩,
    ⟨S1024x218x1, col (andi (ge Z 0x40800000#32) (twice C))⟩, ⟨S1024x218x1, col (run5 Z N H)⟩,
    ⟨S1024x218x1, col (flush Z T)⟩, ⟨S1024x218x1, col (andi (run5 Z N H) (flush Z T))⟩]
    concatenates_S1024x218x1_S1024x218x1_S1024x218x1_S1024x218x1_S1024x218x1_S1024x218x1_S1024x218x1_S1024x218x1_S1024x218x8_d2)

/-- The five numbers, stacked. -/
abbrev numbers : FVec Ideal S1024x218x5 .f32 :=
  concatenate S1024x218x5 2 [⟨S1024x218x1, colf K⟩, ⟨S1024x218x1, colf T⟩, ⟨S1024x218x1, colf N⟩, ⟨S1024x218x1, colf H⟩,
    ⟨S1024x218x1, colf Z⟩] concatenates_S1024x218x1_S1024x218x1_S1024x218x1_S1024x218x1_S1024x218x1_S1024x218x5_d2

/-- One half's metadata, stacked. -/
abbrev half33 : FVec Ideal S1024x218x33 .f32 :=
  concatenate S1024x218x33 2 [⟨S1024x218x8, flags Z K T N H C⟩, ⟨S1024x218x5, numbers Z K T N H⟩, ⟨S1024x218x14, C⟩,
    ⟨S1024x218x6, D⟩] concatenates_S1024x218x8_S1024x218x5_S1024x218x14_S1024x218x6_S1024x218x33_d2

/-- Reading `at least`. -/
theorem ge_at (X : FVec Ideal S1024x218 .f32) (b : Fin 1024) (m : Fin 218) (k : BitVec 32) (n x : ℕ)
    (hk : Ideal.ofBits .f32 k = ((n : ℕ) : EReal)) (hX : (X (ix2 b m) : EReal) = ((x : ℕ) : EReal)) :
    (ge X k (ix2 b m) : BitVec 1) = BitVec.ofBool (decide (n ≤ x)) := by
  pointwise
  rw [hk, hX]
  simp only [cast_le]

/-- Reading `equal`. -/
theorem eq_at (X : FVec Ideal S1024x218 .f32) (b : Fin 1024) (m : Fin 218) (k : BitVec 32) (n x : ℕ)
    (hk : Ideal.ofBits .f32 k = ((n : ℕ) : EReal)) (hX : (X (ix2 b m) : EReal) = ((x : ℕ) : EReal)) :
    (eq X k (ix2 b m) : BitVec 1) = BitVec.ofBool (decide (x = n)) := by
  pointwise
  rw [hk, hX]
  simp only [Cast.cast_eq]

/-- A count of ranks that occur twice, as a word, against 2. -/
theorem twice_word (w : Fin 8 → ℕ) (r : Fin 8 → BitVec 32) :
    IntOp.cmpi CmpIPredicate.eq (Finset.univ.fold IntOp.addi (0#32)
      (fun x : Fin 14 => BitVec.setWidth 32 (BitVec.ofBool (decide (2 ≤ Model.cnt 14 w r x))))) 2#32
      = BitVec.ofBool (decide (Model.atLeast w r 2 = 2)) := by
  rw [fold_count, cmpi_eq]
  have e : (∑ x, if decide (2 ≤ Model.cnt 14 w r x) = true then 1 else 0) = Model.atLeast w r 2 := by
    unfold Model.atLeast; simp only [decide_eq_true_eq]
  rw [e]
  have h : Model.atLeast w r 2 ≤ 14 := by
    unfold Model.atLeast
    calc _ ≤ ∑ _c : Fin 14, 1 := Finset.sum_le_sum fun c _ => by split <;> omega
      _ = 14 := by simp
  generalize Model.atLeast w r 2 = n at h ⊢
  have : ∀ n : Fin 15, BitVec.ofBool (decide (BitVec.ofNat 32 n.val = 2#32)) = BitVec.ofBool (decide (n.val = 2)) := by decide
  exact this ⟨n, by omega⟩

/-- Reading `two ranks occur twice`. -/
theorem twice_at (b : Fin 1024) (m : Fin 218) (w : Fin 8 → ℕ) (r : Fin 8 → BitVec 32)
    (hC : ∀ c, (C (ix3 b m c) : EReal) = ((Model.cnt 14 w r c : ℕ) : EReal)) :
    (twice C (ix2 b m) : BitVec 1) = BitVec.ofBool (decide (Model.atLeast w r 2 = 2)) := by
  have e : ∀ x : Fin 14, decide (Ideal.ofBits FTy.f32 0x40000000#32 ≤ (C (ix3 b m x) : EReal))
      = decide (2 ≤ Model.cnt 14 w r x) := fun x => by
    rw [hC, bits_two]; simp only [cast_le]
  refine Eq.trans ?_ (twice_word w r)
  simp only [← e]
  pointwise

/-- Reading a conjunction. -/
theorem and_at (X Y : IVec S1024x218 1) (i : S1024x218.Idx) (p q : Bool) (hX : (X i : BitVec 1) = BitVec.ofBool p)
    (hY : (Y i : BitVec 1) = BitVec.ofBool q) : (andi X Y i : BitVec 1) = BitVec.ofBool (p && q) := by
  show IntOp.andi (X i) (Y i) = _
  rw [hX, hY, andi_bool]

/-- Reading a negation. -/
theorem not_at (X : IVec S1024x218 1) (i : S1024x218.Idx) (p : Bool) (hX : (X i : BitVec 1) = BitVec.ofBool p) :
    (noti X i : BitVec 1) = BitVec.ofBool (!p) := by
  show ~~~(X i) = _
  rw [hX, not_bool]

/-- Reading the stacked flags. -/
theorem stack_at (F : Fin 8 → IVec S1024x218 1) (b : Fin 1024) (m : Fin 218) (k : Fin 8) (p : Fin 8 → Bool)
    (hp : ∀ k, (F k (ix2 b m) : BitVec 1) = BitVec.ofBool (p k)) :
    (uitofp (F := Ideal) .f32 (concatenate S1024x218x8 2 [⟨S1024x218x1, col (F 0)⟩, ⟨S1024x218x1, col (F 1)⟩,
      ⟨S1024x218x1, col (F 2)⟩, ⟨S1024x218x1, col (F 3)⟩, ⟨S1024x218x1, col (F 4)⟩, ⟨S1024x218x1, col (F 5)⟩,
      ⟨S1024x218x1, col (F 6)⟩, ⟨S1024x218x1, col (F 7)⟩]
      concatenates_S1024x218x1_S1024x218x1_S1024x218x1_S1024x218x1_S1024x218x1_S1024x218x1_S1024x218x1_S1024x218x1_S1024x218x8_d2)
      (ix3 b m k) : EReal) = (((p k).toNat : ℕ) : EReal) := by
  pointwise
  simp only [hp]
  fin_cases k <;> exact uitofp_bool _

/-- Reading one half's metadata, from its flags. -/
theorem stack33_at (F : FVec Ideal S1024x218x8 .f32) (b : Fin 1024) (m : Fin 218) (w : Fin 8 → ℕ) (r s : Fin 8 → BitVec 32)
    (hZ : (Z (ix2 b m) : EReal) = ((Model.size w : ℕ) : EReal))
    (hK : (K (ix2 b m) : EReal) = ((Model.maxRank w r : ℕ) : EReal))
    (hT : (T (ix2 b m) : EReal) = ((Model.maxSuit w s : ℕ) : EReal))
    (hN : (N (ix2 b m) : EReal) = ((Model.atLeast w r 1 : ℕ) : EReal))
    (hH : (H (ix2 b m) : EReal) = ((Model.maxHits w r : ℕ) : EReal))
    (hC : ∀ c, (C (ix3 b m c) : EReal) = ((Model.cnt 14 w r c : ℕ) : EReal))
    (hD : ∀ c, (D (ix3 b m c) : EReal) = ((Model.cnt 6 w s c : ℕ) : EReal))
    (hf : ∀ k, (F (ix3 b m k) : EReal) = (((Model.flag w r s k).toNat : ℕ) : EReal)) (k : Fin 33) :
    (concatenate S1024x218x33 2 [⟨S1024x218x8, F⟩, ⟨S1024x218x5, numbers Z K T N H⟩, ⟨S1024x218x14, C⟩,
      ⟨S1024x218x6, D⟩] concatenates_S1024x218x8_S1024x218x5_S1024x218x14_S1024x218x6_S1024x218x33_d2 (ix3 b m k) : EReal)
      = ((Model.md w r s k : ℕ) : EReal) := by
  unfold Model.md
  pointwise
  by_cases h1 : k.val < 8
  · rw [dif_pos h1, dif_pos h1, hf]
  · rw [dif_neg h1, dif_neg h1]
    by_cases h2 : k.val < 13
    · rw [dif_pos (by omega), dif_pos h2]
      have : k.val = 8 ∨ k.val = 9 ∨ k.val = 10 ∨ k.val = 11 ∨ k.val = 12 := by omega
      obtain ⟨k, hk⟩ := k
      rcases this with h | h | h | h | h <;> simp only at h <;> subst h
      · exact hK
      · exact hT
      · exact hN
      · exact hH
      · exact hZ
    · rw [dif_neg (by omega), dif_neg h2]
      by_cases h3 : k.val < 27
      · rw [dif_pos (by omega), dif_pos h3, hC]
        congr 2
      · rw [dif_neg (by omega), dif_neg h3, hD]
        congr 2

/-- Reading one half's metadata. -/
theorem half_at (b : Fin 1024) (m : Fin 218) (w : Fin 8 → ℕ) (r s : Fin 8 → BitVec 32)
    (hZ : (Z (ix2 b m) : EReal) = ((Model.size w : ℕ) : EReal))
    (hK : (K (ix2 b m) : EReal) = ((Model.maxRank w r : ℕ) : EReal))
    (hT : (T (ix2 b m) : EReal) = ((Model.maxSuit w s : ℕ) : EReal))
    (hN : (N (ix2 b m) : EReal) = ((Model.atLeast w r 1 : ℕ) : EReal))
    (hH : (H (ix2 b m) : EReal) = ((Model.maxHits w r : ℕ) : EReal))
    (hC : ∀ c, (C (ix3 b m c) : EReal) = ((Model.cnt 14 w r c : ℕ) : EReal))
    (hD : ∀ c, (D (ix3 b m c) : EReal) = ((Model.cnt 6 w s c : ℕ) : EReal)) (k : Fin 33) :
    (half33 Z K T N H C D (ix3 b m k) : EReal) = ((Model.md w r s k : ℕ) : EReal) := by
  have hf : ∀ k, (flags Z K T N H C (ix3 b m k) : EReal) = (((Model.flag w r s k).toNat : ℕ) : EReal) := by
    intro k
    have z2 := ge_at Z b m _ _ _ bits_two hZ
    have z3 := ge_at Z b m _ _ _ bits_three hZ
    have z4 := ge_at Z b m _ _ _ bits_four hZ
    have z5 := ge_at Z b m _ _ _ bits_five hZ
    have k3 := and_at _ _ _ _ _ z3 (ge_at K b m _ _ _ bits_three hK)
    have k4 := and_at _ _ _ _ _ z4 (ge_at K b m _ _ _ bits_four hK)
    have st := and_at _ _ _ _ _ (and_at _ _ _ _ _ z5 (eq_at H b m _ _ _ bits_five hH)) (ge_at N b m _ _ _ bits_five hN)
    have fl := and_at _ _ _ _ _ z5 (ge_at T b m _ _ _ bits_five hT)
    refine stack_at (fun j => match j with
      | 0 => andi (ge Z 0x40000000#32) (ge K 0x40000000#32) | 1 => three Z K | 2 => four Z K | 3 => full Z K N
      | 4 => andi (ge Z 0x40800000#32) (twice C) | 5 => run5 Z N H | 6 => flush Z T
      | 7 => andi (run5 Z N H) (flush Z T)) b m k (Model.flag w r s) fun j => ?_
    match j with
    | 0 => exact and_at _ _ _ _ _ z2 (ge_at K b m _ _ _ bits_two hK)
    | 1 => exact k3
    | 2 => exact k4
    | 3 => exact and_at _ _ _ _ _ (and_at _ _ _ _ _ (and_at _ _ _ _ _ z5 k3) (not_at _ _ _ k4)) (eq_at N b m _ _ _ bits_two hN)
    | 4 => exact and_at _ _ _ _ _ z4 (twice_at C b m w r hC)
    | 5 => exact st
    | 6 => exact fl
    | 7 => exact and_at _ _ _ _ _ st fl
  exact stack33_at Z K T N H C D _ b m w r s hZ hK hT hN hH hC hD hf k

end

/-- The first layer at an index. -/
theorem layer0_at (X : FVec Ideal S1024x218x194 .f32) (W : FVec Ideal S194x256 .f32) (c : FVec Ideal S256 .f32) (b : Fin 1024)
    (m : Fin 218) (j : Fin 256) :
    (addf (Host.dotGeneral dot_S1024x218x194_S194x256_S1024x218x256_2_0_01_1_n_n none X W)
      (broadcastInDim S1024x218x256 ![0, 1, 2] bcast_S1x1x256_S1024x218x256_0_1_2
        (broadcastInDim S1x1x256 ![2] bcast_S256_S1x1x256_2 c)) (ix3 b m j) : EReal)
      = Model.dense (fun k => (X (ix3 b m k) : EReal)) (fun k j => (W (ix2 k j) : EReal)) (fun j => (c (ix1 j) : EReal)) j := by
  pointwise
  rfl

/-- The second layer at an index. -/
theorem layer1_at (X : FVec Ideal S1024x218x256 .f32) (W : FVec Ideal S256x128 .f32) (c : FVec Ideal S128 .f32) (b : Fin 1024)
    (m : Fin 218) (j : Fin 128) :
    (addf (Host.dotGeneral dot_S1024x218x256_S256x128_S1024x218x128_2_0_01_1_n_n none
      (mulf (mulf (broadcastInDim S1024x218x256 ![] bcast_S_S1024x218x256 (constant S_ .f32 0x3F000000#32)) X)
        (Host.erfc (mulf (Host.negf X) (broadcastInDim S1024x218x256 ![] bcast_S_S1024x218x256 (constant S_ .f32 0x3F3504F3#32)))))
      W) (broadcastInDim S1024x218x128 ![0, 1, 2] bcast_S1x1x128_S1024x218x128_0_1_2
        (broadcastInDim S1x1x128 ![2] bcast_S128_S1x1x128_2 c)) (ix3 b m j) : EReal)
      = Model.dense (fun k => Model.gelu (X (ix3 b m k) : EReal)) (fun k j => (W (ix2 k j) : EReal))
        (fun j => (c (ix1 j) : EReal)) j := by
  pointwise
  rfl

/-- The third layer at an index. -/
theorem layer2_at (X : FVec Ideal S1024x218x128 .f32) (W : FVec Ideal S128x64 .f32) (c : FVec Ideal S64 .f32) (b : Fin 1024)
    (m : Fin 218) (j : Fin 64) :
    (addf (Host.dotGeneral dot_S1024x218x128_S128x64_S1024x218x64_2_0_01_1_n_n none
      (mulf (mulf (broadcastInDim S1024x218x128 ![] bcast_S_S1024x218x128 (constant S_ .f32 0x3F000000#32)) X)
        (Host.erfc (mulf (Host.negf X) (broadcastInDim S1024x218x128 ![] bcast_S_S1024x218x128 (constant S_ .f32 0x3F3504F3#32)))))
      W) (broadcastInDim S1024x218x64 ![0, 1, 2] bcast_S1x1x64_S1024x218x64_0_1_2
        (broadcastInDim S1x1x64 ![2] bcast_S64_S1x1x64_2 c)) (ix3 b m j) : EReal)
      = Model.dense (fun k => Model.gelu (X (ix3 b m k) : EReal)) (fun k j => (W (ix2 k j) : EReal))
        (fun j => (c (ix1 j) : EReal)) j := by
  pointwise
  rfl

/-- The last layer and the choice by validity, at an index. -/
theorem out_at (X : FVec Ideal S1024x218x64 .f32) (W : FVec Ideal S64x1 .f32) (c : FVec Ideal S1 .f32) (p : IVec S1024x218 1)
    (b : Fin 1024) (m : Fin 218) :
    (select p (shapeCast S1024x218 (addf (Host.dotGeneral dot_S1024x218x64_S64x1_S1024x218x1_2_0_01_1_n_n none
      (mulf (mulf (broadcastInDim S1024x218x64 ![] bcast_S_S1024x218x64 (constant S_ .f32 0x3F000000#32)) X)
        (Host.erfc (mulf (Host.negf X) (broadcastInDim S1024x218x64 ![] bcast_S_S1024x218x64 (constant S_ .f32 0x3F3504F3#32)))))
      W) (broadcastInDim S1024x218x1 ![0, 1, 2] bcast_S1x1x1_S1024x218x1_0_1_2
        (broadcastInDim S1x1x1 ![2] bcast_S1_S1x1x1_2 c))) shapeCasts_S1024x218x1_S1024x218)
      (broadcastInDim S1024x218 ![] bcast_S_S1024x218 (id (constant (F := Ideal) S_ .f32 0xCE6E6B28#32))) (ix2 b m) : EReal)
      = Scalar.select (p (ix2 b m) : BitVec 1) (Model.dense (fun k => Model.gelu (X (ix3 b m k) : EReal))
        (fun k j => (W (ix2 k j) : EReal)) (fun j => (c (ix1 j) : EReal)) 0) Model.low := by
  pointwise
  rfl

/-- The auxiliary result at an index. -/
theorem auxOut_at (X : FVec Ideal S1024x218x128 .f32) (W : FVec Ideal S128x1 .f32) (c : FVec Ideal S1 .f32)
    (p : IVec S1024x218 1) (b : Fin 1024) (m : Fin 218) (z : Fin 1) :
    (select (broadcastInDim S1024x218x1 ![0, 1] bcast_S1024x218_S1024x218x1_0_1 p)
      (addf (Host.dotGeneral dot_S1024x218x128_S128x1_S1024x218x1_2_0_01_1_n_n none
      (mulf (mulf (broadcastInDim S1024x218x128 ![] bcast_S_S1024x218x128 (constant S_ .f32 0x3F000000#32)) X)
        (Host.erfc (mulf (Host.negf X) (broadcastInDim S1024x218x128 ![] bcast_S_S1024x218x128 (constant S_ .f32 0x3F3504F3#32)))))
      W) (broadcastInDim S1024x218x1 ![0, 1, 2] bcast_S1x1x1_S1024x218x1_0_1_2
        (broadcastInDim S1x1x1 ![2] bcast_S1_S1x1x1_2 c)))
      (broadcastInDim S1024x218x1 ![] bcast_S_S1024x218x1 (id (constant (F := Ideal) S_ .f32 0x00000000#32))) (ix3 b m z) : EReal)
      = Scalar.select (p (ix2 b m) : BitVec 1) (Model.dense (fun k => Model.gelu (X (ix3 b m k) : EReal))
        (fun k j => (W (ix2 k j) : EReal)) (fun j => (c (ix1 j) : EReal)) 0) 0 := by
  obtain rfl : z = 0 := Subsingleton.elim _ _
  have hz : (id (constant (F := Ideal) S_ .f32 0x00000000#32) ix0 : EReal) = 0 := by simp [constant]
  pointwise
  exact congrArg (Scalar.select _ _) hz

end Cert.RefRow

end
-- ==== Proof.RefNet.lean ====
module

public import proofs.«01_k».proof.Proof.RefMeta
public import proofs.«01_k».proof.Proof.RefRow
public import proofs.«01_k».proof.Proof.Goal

@[expose] public section

set_option maxRecDepth 16384

/-! What the reference computes, entry by entry: the network of the model on the row of the model. -/

noncomputable section

namespace Cert.RefNet

open Idealize.ShloMosaic Idealize.SL.Sem Cert.ReferenceIdeal Cert.ReferenceIdeal.Value Cert.ReferenceIdeal.Gen Cert.Cast
  Cert.Tables Cert.RefMeta Cert.RefRow

variable (V : Valuation τ sig (Elt Ideal))

/-- The hand's features. -/
def fl (b : Fin 1024) (k : Fin 128) : EReal := V (Proc.devRef .tc main_arg1) (ix2 b k)

/-- The row of the model. -/
abbrev rowAt (b : Fin 1024) (m : Fin 218) : Fin 194 → EReal := Model.row (fl V b) (mask m) (rk V b) (su V b)

/-- The features and the two halves, joined. -/
theorem join_at (F G : FVec Ideal S1024x218x33 .f32) (b : Fin 1024) (m : Fin 218)
    (hF : ∀ k, (F (ix3 b m k) : EReal) = ((Model.md (mask m) (rk V b) (su V b) k : ℕ) : EReal))
    (hG : ∀ k, (G (ix3 b m k) : EReal) = ((Model.md (left m) (rk V b) (su V b) k : ℕ) : EReal)) (k : Fin 194) :
    (concatenate S1024x218x194 2 [⟨S1024x218x128, (broadcastInDim S1024x218x128 ![0, 1, 2]
      bcast_S1024x1x128_S1024x218x128_0_1_2 (broadcastInDim S1024x1x128 ![0, 2] bcast_S1024x128_S1024x1x128_0_2
      (V (Proc.devRef .tc main_arg1))))⟩, ⟨S1024x218x33, F⟩, ⟨S1024x218x33, G⟩]
      concatenates_S1024x218x128_S1024x218x33_S1024x218x33_S1024x218x194_d2 (ix3 b m k) : EReal) = rowAt V b m k := by
  pointwise
  unfold rowAt Model.row
  by_cases h1 : k.val < 128
  · rw [dif_pos h1, dif_pos h1]; rfl
  · rw [dif_neg h1, dif_neg h1]
    by_cases h2 : k.val < 161
    · rw [dif_pos (by omega), dif_pos h2, hF]
    · rw [dif_neg (by omega), dif_neg h2, hG]
      congr 3

/-- The network's input row. -/
theorem v225_at (b : Fin 1024) (m : Fin 218) (k : Fin 194) : (res_main_v225 V (ix3 b m k) : EReal) = rowAt V b m k :=
  join_at V
    (half33 (res_main_v43 V) (res_main_v44 V) (res_main_v53 V) (res_main_v49 V) (res_main_v55 V) (res_main_v27 V) (res_main_v40 V))
    (half33 (res_main_v147 V) (res_main_v148 V) (res_main_v157 V) (res_main_v153 V) (res_main_v159 V) (res_main_v131 V)
      (res_main_v144 V)) b m
    (half_at _ _ _ _ _ _ _ b m (mask m) (rk V b) (su V b) (v43_at V b m) (v44_at V b m) (v53_at V b m) (v49_at V b m)
      (v55_at V b m) (v27_at V b m) (v40_at V b m))
    (half_at _ _ _ _ _ _ _ b m (left m) (rk V b) (su V b) (v147_at V b m) (v148_at V b m) (v157_at V b m) (v153_at V b m)
      (v159_at V b m) (v131_at V b m) (v144_at V b m)) k

/-- The first layer of the logits. -/
theorem v229_at (b : Fin 1024) (m : Fin 218) (j : Fin 256) : (res_main_v229 V (ix3 b m j) : EReal)
    = Model.dense (rowAt V b m) (Goal.mat (V (Proc.devRef .tc main_arg5))) (Goal.vec (V (Proc.devRef .tc main_arg6))) j :=
  (layer0_at (res_main_v225 V) (V (Proc.devRef .tc main_arg5)) (V (Proc.devRef .tc main_arg6)) b m j).trans
    (congrArg (fun x => Model.dense x (Goal.mat (V (Proc.devRef .tc main_arg5))) (Goal.vec (V (Proc.devRef .tc main_arg6))) j) (funext fun k => v225_at V b m k))

/-- The second layer of the logits. -/
theorem v240_at (b : Fin 1024) (m : Fin 218) (j : Fin 128) : (res_main_v240 V (ix3 b m j) : EReal)
    = Model.dense (fun k => Model.gelu (Model.dense (rowAt V b m) (Goal.mat (V (Proc.devRef .tc main_arg5))) (Goal.vec (V (Proc.devRef .tc main_arg6))) k)) (Goal.mat (V (Proc.devRef .tc main_arg7))) (Goal.vec (V (Proc.devRef .tc main_arg8))) j :=
  (layer1_at (res_main_v229 V) (V (Proc.devRef .tc main_arg7)) (V (Proc.devRef .tc main_arg8)) b m j).trans
    (congrArg (fun x => Model.dense x (Goal.mat (V (Proc.devRef .tc main_arg7))) (Goal.vec (V (Proc.devRef .tc main_arg8))) j) (funext fun k => congrArg Model.gelu (v229_at V b m k)))

/-- The third layer of the logits. -/
theorem v251_at (b : Fin 1024) (m : Fin 218) (j : Fin 64) : (res_main_v251 V (ix3 b m j) : EReal)
    = Model.dense (fun k => Model.gelu (Model.dense (fun k => Model.gelu (Model.dense (rowAt V b m) (Goal.mat (V (Proc.devRef .tc main_arg5))) (Goal.vec (V (Proc.devRef .tc main_arg6))) k))
      (Goal.mat (V (Proc.devRef .tc main_arg7))) (Goal.vec (V (Proc.devRef .tc main_arg8))) k)) (Goal.mat (V (Proc.devRef .tc main_arg9))) (Goal.vec (V (Proc.devRef .tc main_arg10))) j :=
  (layer2_at (res_main_v240 V) (V (Proc.devRef .tc main_arg9)) (V (Proc.devRef .tc main_arg10)) b m j).trans
    (congrArg (fun x => Model.dense x (Goal.mat (V (Proc.devRef .tc main_arg9))) (Goal.vec (V (Proc.devRef .tc main_arg10))) j) (funext fun k => congrArg Model.gelu (v240_at V b m k)))

/-- The first layer of the auxiliary values. -/
theorem v267_at (b : Fin 1024) (m : Fin 218) (j : Fin 256) : (res_main_v267 V (ix3 b m j) : EReal)
    = Model.dense (rowAt V b m) (Goal.mat (V (Proc.devRef .tc main_arg13))) (Goal.vec (V (Proc.devRef .tc main_arg14))) j :=
  (layer0_at (res_main_v225 V) (V (Proc.devRef .tc main_arg13)) (V (Proc.devRef .tc main_arg14)) b m j).trans
    (congrArg (fun x => Model.dense x (Goal.mat (V (Proc.devRef .tc main_arg13))) (Goal.vec (V (Proc.devRef .tc main_arg14))) j) (funext fun k => v225_at V b m k))

/-- The second layer of the auxiliary values. -/
theorem v278_at (b : Fin 1024) (m : Fin 218) (j : Fin 128) : (res_main_v278 V (ix3 b m j) : EReal)
    = Model.dense (fun k => Model.gelu (Model.dense (rowAt V b m) (Goal.mat (V (Proc.devRef .tc main_arg13))) (Goal.vec (V (Proc.devRef .tc main_arg14))) k)) (Goal.mat (V (Proc.devRef .tc main_arg15))) (Goal.vec (V (Proc.devRef .tc main_arg16))) j :=
  (layer1_at (res_main_v267 V) (V (Proc.devRef .tc main_arg15)) (V (Proc.devRef .tc main_arg16)) b m j).trans
    (congrArg (fun x => Model.dense x (Goal.mat (V (Proc.devRef .tc main_arg15))) (Goal.vec (V (Proc.devRef .tc main_arg16))) j) (funext fun k => congrArg Model.gelu (v267_at V b m k)))

/-- The logits of the reference. -/
theorem logits_at (b : Fin 1024) (m : Fin 218) :
    ((select (res_main_v14 V) (shapeCast S1024x218 (addf (Host.dotGeneral (φ₂ := .f32) dot_S1024x218x64_S64x1_S1024x218x1_2_0_01_1_n_n none (mulf (mulf (broadcastInDim S1024x218x64 ![] bcast_S_S1024x218x64 (constant S_ .f32 0x3F000000#32)) (res_main_v251 V)) (Host.erfc (mulf (Host.negf (res_main_v251 V)) (broadcastInDim S1024x218x64 ![] bcast_S_S1024x218x64 (constant S_ .f32 0x3F3504F3#32))))) (V (Proc.devRef .tc main_arg11))) (broadcastInDim S1024x218x1 ![0, 1, 2] bcast_S1x1x1_S1024x218x1_0_1_2 (broadcastInDim S1x1x1 ![2] bcast_S1_S1x1x1_2 (V (Proc.devRef .tc main_arg12))))) shapeCasts_S1024x218x1_S1024x218) (broadcastInDim S1024x218 ![] bcast_S_S1024x218 (id (constant (F := Ideal) S_ .f32 0xCE6E6B28#32)))) (ix2 b m) : EReal)
      = Goal.logits (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) b m := by
  refine (out_at (res_main_v251 V) (V (Proc.devRef .tc main_arg11)) (V (Proc.devRef .tc main_arg12)) (res_main_v14 V) b m).trans ?_
  rw [v14_at, select_bool]
  exact if_congr Iff.rfl (congrArg (fun x => Model.dense x (Goal.mat (V (Proc.devRef .tc main_arg11))) (Goal.vec (V (Proc.devRef .tc main_arg12))) 0)
    (funext fun k => congrArg Model.gelu (v251_at V b m k))) rfl

/-- The auxiliary values of the reference. -/
theorem aux_at (b : Fin 1024) (m : Fin 218) (z : Fin 1) :
    ((select (broadcastInDim S1024x218x1 ![0, 1] bcast_S1024x218_S1024x218x1_0_1 (res_main_v14 V)) (addf (Host.dotGeneral (φ₂ := .f32) dot_S1024x218x128_S128x1_S1024x218x1_2_0_01_1_n_n none (mulf (mulf (broadcastInDim S1024x218x128 ![] bcast_S_S1024x218x128 (constant S_ .f32 0x3F000000#32)) (res_main_v278 V)) (Host.erfc (mulf (Host.negf (res_main_v278 V)) (broadcastInDim S1024x218x128 ![] bcast_S_S1024x218x128 (constant S_ .f32 0x3F3504F3#32))))) (V (Proc.devRef .tc main_arg17))) (broadcastInDim S1024x218x1 ![0, 1, 2] bcast_S1x1x1_S1024x218x1_0_1_2 (broadcastInDim S1x1x1 ![2] bcast_S1_S1x1x1_2 (V (Proc.devRef .tc main_arg18))))) (broadcastInDim S1024x218x1 ![] bcast_S_S1024x218x1 (id (constant (F := Ideal) S_ .f32 0x00000000#32)))) (ix3 b m z) : EReal)
      = Goal.aux (V (Proc.devRef .tc main_arg1)) (V (Proc.devRef .tc main_arg2)) (V (Proc.devRef .tc main_arg3)) (V (Proc.devRef .tc main_arg4)) (V (Proc.devRef .tc main_arg13)) (V (Proc.devRef .tc main_arg14)) (V (Proc.devRef .tc main_arg15)) (V (Proc.devRef .tc main_arg16)) (V (Proc.devRef .tc main_arg17)) (V (Proc.devRef .tc main_arg18)) b m := by
  refine (auxOut_at (res_main_v278 V) (V (Proc.devRef .tc main_arg17)) (V (Proc.devRef .tc main_arg18)) (res_main_v14 V) b m z).trans ?_
  rw [v14_at, select_bool]
  exact if_congr Iff.rfl (congrArg (fun x => Model.dense x (Goal.mat (V (Proc.devRef .tc main_arg17))) (Goal.vec (V (Proc.devRef .tc main_arg18))) 0)
    (funext fun k => congrArg Model.gelu (v278_at V b m k))) rfl

end Cert.RefNet

end
-- ==== Proof.RefRun.lean ====
module

public import proofs.«01_k».proof.Proof.KerRun
public import proofs.«01_k».proof.Proof.RefNet

@[expose] public section

/-! What the reference ends holding, over the kernel's arguments. -/

noncomputable section

namespace Cert.RefRun

open Idealize.ShloMosaic Idealize.SL.Sem Cert.ReferenceIdeal

/-- Equal arguments give equal values. -/
theorem logits_congr {a1 b1 : Goal.Mat 1024 128} {a2 b2 : Goal.IMat 1024 8} {a3 b3 : Goal.IMat 1024 8} {a4 b4 : Goal.IMat 1024 8} {a5 b5 : Goal.Mat 194 256} {a6 b6 : Goal.Vect 256} {a7 b7 : Goal.Mat 256 128} {a8 b8 : Goal.Vect 128} {a9 b9 : Goal.Mat 128 64} {a10 b10 : Goal.Vect 64} {a11 b11 : Goal.Mat 64 1} {a12 b12 : Goal.Vect 1} (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (B : Fin 1024) (q : Fin 218) :
    Goal.logits a1 a2 a3 a4 a5 a6 a7 a8 a9 a10 a11 a12 B q = Goal.logits b1 b2 b3 b4 b5 b6 b7 b8 b9 b10 b11 b12 B q := by
  subst h1 h2 h3 h4 h5 h6 h7 h8 h9 h10 h11 h12
  rfl

/-- Equal arguments give equal values. -/
theorem aux_congr {a1 b1 : Goal.Mat 1024 128} {a2 b2 : Goal.IMat 1024 8} {a3 b3 : Goal.IMat 1024 8} {a4 b4 : Goal.IMat 1024 8} {a13 b13 : Goal.Mat 194 256} {a14 b14 : Goal.Vect 256} {a15 b15 : Goal.Mat 256 128} {a16 b16 : Goal.Vect 128} {a17 b17 : Goal.Mat 128 1} {a18 b18 : Goal.Vect 1} (h1 : a1 = b1) (h2 : a2 = b2) (h3 : a3 = b3) (h4 : a4 = b4) (h13 : a13 = b13) (h14 : a14 = b14) (h15 : a15 = b15) (h16 : a16 = b16) (h17 : a17 = b17) (h18 : a18 = b18) (B : Fin 1024) (q : Fin 218) :
    Goal.aux a1 a2 a3 a4 a13 a14 a15 a16 a17 a18 B q = Goal.aux b1 b2 b3 b4 b13 b14 b15 b16 b17 b18 B q := by
  subst h1 h2 h3 h4 h13 h14 h15 h16 h17 h18
  rfl

variable (m : (ℓ : Loc Cert.KernelIdeal.nD Cert.KernelIdeal.τ Cert.KernelIdeal.sig) → Buf (Elt Ideal) ℓ)
  (m' : (ℓ : Loc nD τ sig) → Buf (Elt Ideal) ℓ)

/-- The memories agree on the arguments. -/
def Agree : Prop := ∀ c : Dev nD,
  m' ((c.tc : Thread nD τ).loc main_arg0) = m ((c.tc : Thread Cert.KernelIdeal.nD Cert.KernelIdeal.τ).loc Cert.KernelIdeal.main_arg0)
   ∧ m' ((c.tc : Thread nD τ).loc main_arg1) = m ((c.tc : Thread Cert.KernelIdeal.nD Cert.KernelIdeal.τ).loc Cert.KernelIdeal.main_arg1)
   ∧ m' ((c.tc : Thread nD τ).loc main_arg2) = m ((c.tc : Thread Cert.KernelIdeal.nD Cert.KernelIdeal.τ).loc Cert.KernelIdeal.main_arg2)
   ∧ m' ((c.tc : Thread nD τ).loc main_arg3) = m ((c.tc : Thread Cert.KernelIdeal.nD Cert.KernelIdeal.τ).loc Cert.KernelIdeal.main_arg3)
   ∧ m' ((c.tc : Thread nD τ).loc main_arg4) = m ((c.tc : Thread Cert.KernelIdeal.nD Cert.KernelIdeal.τ).loc Cert.KernelIdeal.main_arg4)
   ∧ m' ((c.tc : Thread nD τ).loc main_arg5) = m ((c.tc : Thread Cert.KernelIdeal.nD Cert.KernelIdeal.τ).loc Cert.KernelIdeal.main_arg5)
   ∧ m' ((c.tc : Thread nD τ).loc main_arg6) = m ((c.tc : Thread Cert.KernelIdeal.nD Cert.KernelIdeal.τ).loc Cert.KernelIdeal.main_arg6)
   ∧ m' ((c.tc : Thread nD τ).loc main_arg7) = m ((c.tc : Thread Cert.KernelIdeal.nD Cert.KernelIdeal.τ).loc Cert.KernelIdeal.main_arg7)
   ∧ m' ((c.tc : Thread nD τ).loc main_arg8) = m ((c.tc : Thread Cert.KernelIdeal.nD Cert.KernelIdeal.τ).loc Cert.KernelIdeal.main_arg8)
   ∧ m' ((c.tc : Thread nD τ).loc main_arg9) = m ((c.tc : Thread Cert.KernelIdeal.nD Cert.KernelIdeal.τ).loc Cert.KernelIdeal.main_arg9)
   ∧ m' ((c.tc : Thread nD τ).loc main_arg10) = m ((c.tc : Thread Cert.KernelIdeal.nD Cert.KernelIdeal.τ).loc Cert.KernelIdeal.main_arg10)
   ∧ m' ((c.tc : Thread nD τ).loc main_arg11) = m ((c.tc : Thread Cert.KernelIdeal.nD Cert.KernelIdeal.τ).loc Cert.KernelIdeal.main_arg11)
   ∧ m' ((c.tc : Thread nD τ).loc main_arg12) = m ((c.tc : Thread Cert.KernelIdeal.nD Cert.KernelIdeal.τ).loc Cert.KernelIdeal.main_arg12)
   ∧ m' ((c.tc : Thread nD τ).loc main_arg13) = m ((c.tc : Thread Cert.KernelIdeal.nD Cert.KernelIdeal.τ).loc Cert.KernelIdeal.main_arg13)
   ∧ m' ((c.tc : Thread nD τ).loc main_arg14) = m ((c.tc : Thread Cert.KernelIdeal.nD Cert.KernelIdeal.τ).loc Cert.KernelIdeal.main_arg14)
   ∧ m' ((c.tc : Thread nD τ).loc main_arg15) = m ((c.tc : Thread Cert.KernelIdeal.nD Cert.KernelIdeal.τ).loc Cert.KernelIdeal.main_arg15)
   ∧ m' ((c.tc : Thread nD τ).loc main_arg16) = m ((c.tc : Thread Cert.KernelIdeal.nD Cert.KernelIdeal.τ).loc Cert.KernelIdeal.main_arg16)
   ∧ m' ((c.tc : Thread nD τ).loc main_arg17) = m ((c.tc : Thread Cert.KernelIdeal.nD Cert.KernelIdeal.τ).loc Cert.KernelIdeal.main_arg17)
   ∧ m' ((c.tc : Thread nD τ).loc main_arg18) = m ((c.tc : Thread Cert.KernelIdeal.nD Cert.KernelIdeal.τ).loc Cert.KernelIdeal.main_arg18)

variable {m m'} (hagree : Agree m m')
include hagree

/-- The reference's run. -/
theorem run (ρ : Dev nD → PrngReg) : θ_run defs (onTc (τ := τ) (main (F := Ideal))) ⟨m', fun _ => 0, ρ⟩ fun r => ∀ c : Dev nD,
    r.2.mem ((c.tc : Thread nD τ).loc main_v290) = KerRun.logits m c ∧ r.2.mem ((c.tc : Thread nD τ).loc main_v292) = KerRun.aux m c
    ∧ r.2.mem ((c.tc : Thread nD τ).loc main_arg0) = m' ((c.tc : Thread nD τ).loc main_arg0)
     ∧ r.2.mem ((c.tc : Thread nD τ).loc main_arg1) = m' ((c.tc : Thread nD τ).loc main_arg1)
     ∧ r.2.mem ((c.tc : Thread nD τ).loc main_arg2) = m' ((c.tc : Thread nD τ).loc main_arg2)
     ∧ r.2.mem ((c.tc : Thread nD τ).loc main_arg3) = m' ((c.tc : Thread nD τ).loc main_arg3)
     ∧ r.2.mem ((c.tc : Thread nD τ).loc main_arg4) = m' ((c.tc : Thread nD τ).loc main_arg4)
     ∧ r.2.mem ((c.tc : Thread nD τ).loc main_arg5) = m' ((c.tc : Thread nD τ).loc main_arg5)
     ∧ r.2.mem ((c.tc : Thread nD τ).loc main_arg6) = m' ((c.tc : Thread nD τ).loc main_arg6)
     ∧ r.2.mem ((c.tc : Thread nD τ).loc main_arg7) = m' ((c.tc : Thread nD τ).loc main_arg7)
     ∧ r.2.mem ((c.tc : Thread nD τ).loc main_arg8) = m' ((c.tc : Thread nD τ).loc main_arg8)
     ∧ r.2.mem ((c.tc : Thread nD τ).loc main_arg9) = m' ((c.tc : Thread nD τ).loc main_arg9)
     ∧ r.2.mem ((c.tc : Thread nD τ).loc main_arg10) = m' ((c.tc : Thread nD τ).loc main_arg10)
     ∧ r.2.mem ((c.tc : Thread nD τ).loc main_arg11) = m' ((c.tc : Thread nD τ).loc main_arg11)
     ∧ r.2.mem ((c.tc : Thread nD τ).loc main_arg12) = m' ((c.tc : Thread nD τ).loc main_arg12)
     ∧ r.2.mem ((c.tc : Thread nD τ).loc main_arg13) = m' ((c.tc : Thread nD τ).loc main_arg13)
     ∧ r.2.mem ((c.tc : Thread nD τ).loc main_arg14) = m' ((c.tc : Thread nD τ).loc main_arg14)
     ∧ r.2.mem ((c.tc : Thread nD τ).loc main_arg15) = m' ((c.tc : Thread nD τ).loc main_arg15)
     ∧ r.2.mem ((c.tc : Thread nD τ).loc main_arg16) = m' ((c.tc : Thread nD τ).loc main_arg16)
     ∧ r.2.mem ((c.tc : Thread nD τ).loc main_arg17) = m' ((c.tc : Thread nD τ).loc main_arg17)
     ∧ r.2.mem ((c.tc : Thread nD τ).loc main_arg18) = m' ((c.tc : Thread nD τ).loc main_arg18)
    := by
  refine (θ_run defs _ _).mono (fun r h c => ⟨(h c).1.trans ?_, (h c).2.1.trans ?_, (h c).2.2⟩) (Value.run m' ρ)
  · funext y
    have e : y = ix2 (y 0) (y 1) := by funext z; fin_cases z <;> rfl
    rw [e]
    exact (RefNet.logits_at (StableHlo.launchContents m' c) (y 0) (y 1)).trans (logits_congr (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (y 0) (y 1))
  · funext y
    have e : y = ix3 (y 0) (y 1) (y 2) := by funext z; fin_cases z <;> rfl
    rw [e]
    exact (RefNet.aux_at (StableHlo.launchContents m' c) (y 0) (y 1) (y 2)).trans (aux_congr (hagree c).2.1 (hagree c).2.2.1 (hagree c).2.2.2.1 (hagree c).2.2.2.2.1 (hagree c).2.2.2.2.2.2.2.2.2.2.2.2.2.1 (hagree c).2.2.2.2.2.2.2.2.2.2.2.2.2.2.1 (hagree c).2.2.2.2.2.2.2.2.2.2.2.2.2.2.2.1 (hagree c).2.2.2.2.2.2.2.2.2.2.2.2.2.2.2.2.1 (hagree c).2.2.2.2.2.2.2.2.2.2.2.2.2.2.2.2.2.1 (hagree c).2.2.2.2.2.2.2.2.2.2.2.2.2.2.2.2.2.2 (y 0) (y 1))

end Cert.RefRun

end
-- ==== Proof.lean ====
/- The proof of the claims in Defs.lean: the frames are the generated ones, each program's results are those of
   Proof/KerRun.lean and Proof/RefRun.lean. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KerRun
public import proofs.«01_k».proof.Proof.RefRun
public import Idealize.ShloMosaic.Lib.Claim
public import Idealize.ShloMosaic.Adequacy
public import Idealize.ShloMosaic.Init

@[expose] public section

noncomputable section

namespace Cert.Proof

open Idealize.ShloMosaic Idealize.SL.Sem

/-- The kernel's frame, over any floats. -/
theorem frameP : quiescent_Kernel (hKernel := Cert.Kernel.Gen.facts) := fun m g _ => Cert.Kernel.Gen.frame m g

/-- The ideal kernel's frame. -/
theorem framePI : quiescent_KernelIdeal (hKernelIdeal := Cert.KernelIdeal.Gen.facts) := fun m g _ => Cert.KernelIdeal.Gen.frame m g

/-- The reference's frame. -/
theorem frameRI : quiescent_ReferenceIdeal (hReferenceIdeal := Cert.ReferenceIdeal.Gen.facts) := by
  intro m g _
  exact (θ_run Cert.ReferenceIdeal.defs _ _).mono (fun r h => ⟨fun c => (h c).2.2,
    sem_eq_zero_of_no_sems (by decide) r.2⟩) (Cert.ReferenceIdeal.Value.run m g)

/-- Each named constant's word is what it is named for. -/
theorem preserves : preserves_Kernel_KernelIdeal :=
  ⟨IdealRules.named_const.statement Cert.KernelIdeal.κ "rlog2" .f32 0x3FB8AA3B#32 _ rfl,
    IdealRules.named_const.statement Cert.KernelIdeal.κ "half_over_c" .bf16 0x3F35#16 _ rfl⟩

/-- The two programs end with equal results. -/
theorem algebraic : algebraic_KernelIdeal_ReferenceIdeal (hKernelIdeal := Cert.KernelIdeal.Gen.facts)
    (hReferenceIdeal := Cert.ReferenceIdeal.Gen.facts) := fun m g _m' g' _ hagree =>
  ⟨Cert.KerRun.logits m, Cert.KerRun.aux m,
    θ_run_mono (θ_run_and (Cert.KerRun.run m g) (Cert.KernelIdeal.Gen.unchanged m g)) fun _ h c =>
      ⟨(h.1 c).1, (h.1 c).2, h.2 c⟩,
    Cert.RefRun.run hagree g'⟩

/-- The claims. -/
theorem claim : Cert.Claim := ⟨Cert.Kernel.Gen.facts, Cert.KernelIdeal.Gen.facts, Cert.ReferenceIdeal.Gen.facts,
  frameP, framePI, frameRI, preserves, algebraic⟩

end Cert.Proof

end
